-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keeps_Kernel [hPre_keeps_Kernel : Cert.Pre_keeps_Kernel.Facts] (m : (ℓ : Loc Cert.Kernel.nD Cert.Kernel.τ Cert.Kernel.sig) → Buf (Elt Bits) ℓ) : Prop :=
  ∀ c : Dev Cert.Kernel.nD,
    (Cert.Pre_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keeps_Kernel [hPre_keeps_Kernel : Cert.Pre_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keeps_ReferenceIdeal [hPre_keeps_ReferenceIdeal : Cert.Pre_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keeps_Kernel [hKernel : Cert.Kernel.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg), Pre_Kernel_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keeps_Kernel [hKernelIdeal : Cert.KernelIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keeps_ReferenceIdeal [hReferenceIdeal : Cert.ReferenceIdeal.Facts] [hPre_keeps_ReferenceIdeal : Cert.Pre_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keeps_Kernel [hKernelIdeal : Cert.KernelIdeal.Facts] [hReferenceIdeal : Cert.ReferenceIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keeps_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_keeps_Kernel : Cert.Pre_keeps_Kernel.Facts) (hPre_swaps_ReferenceIdeal : Cert.Pre_swaps_ReferenceIdeal.Facts) (hPre_keeps_ReferenceIdeal : Cert.Pre_keeps_ReferenceIdeal.Facts),
    quiescent_Kernel (hKernel := hKernel) (hPre_swaps_Kernel := hPre_swaps_Kernel)
    ∧ quiescent_Kernel_pre_keeps_Kernel (hKernel := hKernel) (hPre_keeps_Kernel := hPre_keeps_Kernel)
    ∧ quiescent_KernelIdeal (hKernelIdeal := hKernelIdeal) (hPre_swaps_Kernel := hPre_swaps_Kernel)
    ∧ quiescent_KernelIdeal_pre_keeps_Kernel (hKernelIdeal := hKernelIdeal) (hPre_keeps_Kernel := hPre_keeps_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_keeps_ReferenceIdeal (hReferenceIdeal := hReferenceIdeal) (hPre_keeps_ReferenceIdeal := hPre_keeps_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_keeps_Kernel (hKernelIdeal := hKernelIdeal) (hReferenceIdeal := hReferenceIdeal) (hPre_keeps_Kernel := hPre_keeps_Kernel)
-- ==== Pre_keeps_Kernel.lean ====
abbrev S1x256x256 : Shape := ⟨3, ![1, 256, 256]⟩
abbrev S2 : Shape := ⟨1, ![2]⟩

class Facts : Prop where

variable [Facts]

def fn {F : FTy → Type} [FloatOps F] (main_arg0 : FVec F S1x256x256 .f32) (main_arg1 : IVec S2 32) : IVec S2 1 :=
  let main_v0 : IVec S2 32 := iotaInDim S2 32 0
  let main_v1 : IVec S2 1 := cmpi .eq main_arg1 main_v0
  main_v1
-- ==== Pre_keeps_ReferenceIdeal.lean ====
abbrev S2x256x256 : Shape := ⟨3, ![2, 256, 256]⟩
abbrev S2 : Shape := ⟨1, ![2]⟩

class Facts : Prop where

variable [Facts]

def fn {F : FTy → Type} [FloatOps F] (main_arg0 : FVec F S2x256x256 .f32) (main_arg1 : IVec S2 32) : IVec S2 1 :=
  let main_v0 : IVec S2 32 := iotaInDim S2 32 0
  let main_v1 : IVec S2 1 := cmpi .eq main_arg1 main_v0
  main_v1
-- ==== Pre_swaps_Kernel.lean ====
abbrev S1x256x256 : Shape := ⟨3, ![1, 256, 256]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x256x256 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_swaps_ReferenceIdeal.lean ====
abbrev S2x256x256 : Shape := ⟨3, ![2, 256, 256]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x256x256 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Kernel.lean ====
abbrev S1x256x256 : Shape := ⟨3, ![1, 256, 256]⟩
abbrev S2 : Shape := ⟨1, ![2]⟩
abbrev S_ : Shape := ⟨0, ![]⟩
abbrev S1x128x256 : Shape := ⟨3, ![1, 128, 256]⟩
abbrev S1 : Shape := ⟨1, ![1]⟩

abbrev nBuf : Space → Nat
  | .hbm => 3
  | .vmem => 4
  | .smem => 1
  | _ => 0

abbrev bufTy : (tb : Table) → Fin (tcTables nBuf tb) → BufTy
  | .hbm, ⟨0, _⟩ => ⟨S1x256x256, .f32⟩
  | .hbm, ⟨1, _⟩ => ⟨S2, .i32⟩
  | .hbm, ⟨2, _⟩ => ⟨S1x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .bf16⟩
  | .local _ .vmem, ⟨3, _⟩ => ⟨S1x256x256, .bf16⟩
  | .local _ .smem, ⟨0, _⟩ => ⟨S2, .i32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : Index := Scalar.indexCast v2
  ![v23.toNat]
def k0_dev2 (d0 : Dev nD) (v24 : BitVec 32) : Nat :=
  let c0_i32_16 : BitVec 32 := 0#32
  let c16_i32_15 : BitVec 32 := 16#32
  let v27 : BitVec 32 := Scalar.muli v24 c16_i32_15
  let v28 : BitVec 32 := Scalar.addi c0_i32_16 v27
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v29 : BitVec 32 := Scalar.muli v5 c4_i32_17
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v31 : BitVec 32 := Scalar.muli v8 c1_i32_18
  let v32 : BitVec 32 := Scalar.addi v30 v31
  v32.toNat

def k0_chk1 (d0 : Dev nD) (v24 : BitVec 32) : Prop :=
  ((k0_dev2 d0 v24) < nD)
theorem k0_dev2_lt : ∀ (d0 : Dev nD) (v24 : BitVec 32) (k0_hw1 : k0_chk1 d0 v24), (k0_dev2 d0 v24) < nD := fun d0 v24 k0_hw1 => k0_hw1

def k0_dev3 (d0 : Dev nD) (v26 : BitVec 32) : Nat :=
  let c0_i32_33 : BitVec 32 := 0#32
  let c16_i32_32 : BitVec 32 := 16#32
  let v45 : BitVec 32 := Scalar.muli v26 c16_i32_32
  let v46 : BitVec 32 := Scalar.addi c0_i32_33 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v47 : BitVec 32 := Scalar.muli v5 c4_i32_34
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v49 : BitVec 32 := Scalar.muli v8 c1_i32_35
  let v50 : BitVec 32 := Scalar.addi v48 v49
  v50.toNat

def k0_chk2 (d0 : Dev nD) (v26 : BitVec 32) : Prop :=
  ((k0_dev3 d0 v26) < nD)
theorem k0_dev3_lt : ∀ (d0 : Dev nD) (v26 : BitVec 32) (k0_hw2 : k0_chk2 d0 v26), (k0_dev3 d0 v26) < nD := fun d0 v26 k0_hw2 => k0_hw2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Halves.lean ====
/- The devices, the table's word and the two row halves of the buffers.

   The mesh has 32 devices in two groups of sixteen (the mesh's first axis). `peer c` is the device of the other
   group at `c`'s place; `tgt b c` is the device the table sends `c`'s block to: its peer when the table swaps
   the two groups (`b = true`), itself when it keeps them (`b = false`). Both are their own inverses.

   The send and the receive buffer are used by row halves, rows 0–127 and rows 128–255; a half's ownership is the
   points-to of the elements its rectangle covers. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The cells' algebra of this protocol: each cell has at most one duty a round. -/
abbrev UB : Type := URounds (GSem nD τ sig) Unit
/-- The pipeline's own cells beside the protocol's. -/
abbrev UU : Type := UR sig nD τ × UB

local notation "𝕄" => MT nD τ sig Unit (Elt F) ℕ UU ℕ

/-! ## The devices -/

set_option backward.proofsInPublic true in
/-- The device at `c`'s place in the other group of sixteen. -/
def peer (c : Dev nD) : Dev nD := ⟨(c.val + 16) % 32, Nat.mod_lt _ (by decide)⟩

theorem peer_peer (c : Dev nD) : peer (peer c) = c := by revert c; decide

/-- The device that the table sends `c`'s block to. -/
def tgt (b : Bool) (c : Dev nD) : Dev nD := if b then peer c else c

theorem tgt_tgt (b : Bool) (c : Dev nD) : tgt b (tgt b c) = c := by
  cases b
  · rfl
  · exact peer_peer c

/-- The two maps as permutations of the mesh. -/
def peerEquiv : Dev nD ≃ Dev nD := ⟨peer, peer, peer_peer, peer_peer⟩
def tgtEquiv (b : Bool) : Dev nD ≃ Dev nD := ⟨tgt b, tgt b, tgt_tgt b, tgt_tgt b⟩

/-- The entry signal goes to `peer c`. -/
theorem dev1_eq (c : Dev nD) : (⟨k0_dev1 c, k0_dev1_lt c⟩ : Dev nD) = peer c := by revert c; decide +kernel

/-! ## The table -/

/-- The table's word for group `g`: the other group, or `g` itself. -/
def entry (b : Bool) (g : ℕ) : BitVec 32 := BitVec.ofNat 32 (if b then 1 - g else g)

variable (m : (ℓ : Loc nD τ sig) → Buf (Elt F) ℓ) (ρ : Dev nD → PrngReg)

/-- Every device's copy of the table holds the swap (`b = true`) or the identity (`b = false`). -/
def TableIs (b : Bool) : Prop :=
  ∀ (c : Dev nD) (i : S2.Idx), (m ((c : Thread nD τ).loc main_arg1) : S2.Idx → BitVec 32) i = entry b (i 0).val

theorem dev2_at (b : Bool) : ∀ c : Dev nD, k0_dev2 c (entry b (c.val / 16)) = (tgt b c).val := by
  cases b <;> decide +kernel
theorem dev3_at (b : Bool) : ∀ c : Dev nD, k0_dev3 c (entry b (c.val / 16)) = (tgt b c).val := by
  cases b <;> decide +kernel

theorem chk1_of {b : Bool} {c : Dev nD} {v : BitVec 32} (hv : v = entry b (c.val / 16)) : k0_chk1 c v := by
  subst hv; show k0_dev2 c _ < nD; rw [dev2_at]; exact (tgt b c).isLt
theorem chk2_of {b : Bool} {c : Dev nD} {v : BitVec 32} (hv : v = entry b (c.val / 16)) : k0_chk2 c v := by
  subst hv; show k0_dev3 c _ < nD; rw [dev3_at]; exact (tgt b c).isLt
/-- Both copies go to `tgt b c`. -/
theorem dev2_eq {b : Bool} {c : Dev nD} {v : BitVec 32} (hv : v = entry b (c.val / 16)) (h : k0_chk1 c v) :
    (⟨k0_dev2 c v, k0_dev2_lt c v h⟩ : Dev nD) = tgt b c := Fin.ext (by subst hv; exact dev2_at b c)
theorem dev3_eq {b : Bool} {c : Dev nD} {v : BitVec 32} (hv : v = entry b (c.val / 16)) (h : k0_chk2 c v) :
    (⟨k0_dev3 c v, k0_dev3_lt c v h⟩ : Dev nD) = tgt b c := Fin.ext (by subst hv; exact dev3_at b c)

/-- The memory at launch: arbitrary contents, every counter zero, arbitrary generator registers. -/
def s₀ : MemSt nD τ sig (Elt F) := ⟨m, fun _ => 0, ρ⟩

/-- Device `c`'s copy of the table and its block of `x`, as the pipeline stages them. -/
def piStg (c : Dev nD) : (cc0_stg0_0 : Ref sig .tc).ty.Contents (Elt F) :=
  (win0_0.blk (0 : Fin 1)).view.read (Elt F) ((s₀ m ρ).mem ((c : Thread nD τ).loc main_arg1))
def xStg (c : Dev nD) : (cc0_stg1_0 : Ref sig .tc).ty.Contents (Elt F) :=
  (win0_1.blk (0 : Fin 1)).view.read (Elt F) ((s₀ m ρ).mem ((c : Thread nD τ).loc main_arg0))

/-- The staged block is the whole of device `c`'s argument. -/
theorem xStg_eq (c : Dev nD) : xStg m ρ c = (m ((c : Thread nD τ).loc main_arg0) : S1x256x256.Idx → Elt F .f32) :=
  funext fun i => congrArg (m ((c : Thread nD τ).loc main_arg0)) (by
    funext a; exact Fin.ext (show 0 * S1x256x256.size a + 1 * (i a).val = (i a).val by rw [Nat.zero_mul, Nat.zero_add, Nat.one_mul]))

/-- The one-word rectangle of the table that device `c` reads. -/
abbrev rPi (c : Dev nD) : Rect S2 := Rect.unit (s := S2) (k0_off1 c) S1.size (k0_off1_inb c)
/-- The word it reads there of contents `t`. -/
abbrev word (c : Dev nD) (t : (cc0_stg0_0 : Ref sig .tc).ty.Contents (Elt F)) : BitVec 32 :=
  ((Memref.whole cc0_stg0_0).access (rPi c) : View sig .tc _ _ _).read (Elt F) t (Shape.Idx.first (s := S1) (numel1_S1.symm ▸ Nat.one_pos))

variable {m} in
/-- Under `TableIs` it is the table's word for the device's group. -/
theorem word_eq {b : Bool} (h : TableIs m b) (c : Dev nD) : word c (piStg m ρ c) = entry b (c.val / 16) := by
  refine (h c _).trans (congrArg (entry b) ?_)
  fin_cases c <;> rfl

/-! ## The row halves -/

/-- A half's first element, its rectangle in a whole buffer, the two buffers' halves. -/
abbrev off : Fin 2 → Fin 3 → ℕ := fun | 0 => ![0, 0, 0] | 1 => ![0, 128, 0]
theorem off_inb : ∀ k : Fin 2, ∀ a, off k a + S1x128x256.size a ≤ S1x256x256.size a := by decide
abbrev rH (k : Fin 2) : Rect S1x256x256 := Rect.unit (s := S1x256x256) (off k) S1x128x256.size (off_inb k)
abbrev sH (k : Fin 2) : Memref sig .tc .vmem S1x128x256 .bf16 := (Memref.whole cc0_scratch0).slice (rH k) (fun _ => rfl)
abbrev vH (k : Fin 2) : Memref sig .tc .vmem S1x128x256 .bf16 := (Memref.whole cc0_scratch1).slice (rH k) (fun _ => rfl)

theorem off_val (k : Fin 2) : off k = ![0, 128 * k.val, 0] := by fin_cases k <;> rfl

theorem mem_rH (k : Fin 2) (i : S1x256x256.Idx) : i ∈ (rH k).set ↔ (i 1).val / 128 = k.val := by
  rw [Rect.mem_set_unit]
  have h0 := (i 0).isLt; have h1 := (i 1).isLt; have h2 := (i 2).isLt
  simp only [off_val, Fin.forall_fin_succ, Fin.isValue] at *
  fin_cases k <;> simp at * <;> omega

theorem rH_disjoint : Disjoint (rH 0).set (rH 1).set :=
  Finset.disjoint_left.2 fun i h0 h1 => by
    have e0 := (mem_rH 0 i).1 h0; have e1 := (mem_rH 1 i).1 h1
    rw [e0] at e1; exact absurd e1 (by decide)

theorem rH_cover : (rH 0).set ∪ (rH 1).set = Finset.univ :=
  Finset.eq_univ_of_forall fun i => by
    have h1 := (i 1).isLt
    rw [Finset.mem_union, mem_rH, mem_rH]
    simp at h1 ⊢; omega

theorem sH_set (k : Fin 2) : (sH k).view.set = (rH k).set := View.set_slice_whole _ _
theorem vH_set (k : Fin 2) : (vH k).view.set = (rH k).set := View.set_slice_whole _ _

/-- Device `c`'s half `k` of its send buffer, of its receive buffer, at contents `f`. -/
def sPts (k : Fin 2) (c : Dev nD) (f : Buf (Elt F) ((sH k).view.loc (c : Thread nD τ))) : sProp 𝕄 :=
  (sH k).view.loc (c : Thread nD τ) ↦[(sH k).view.set]{fullShare} f
def vPts (k : Fin 2) (c : Dev nD) (f : Buf (Elt F) ((vH k).view.loc (c : Thread nD τ))) : sProp 𝕄 :=
  (vH k).view.loc (c : Thread nD τ) ↦[(vH k).view.set]{fullShare} f

instance sPts_storable (k : Fin 2) (c : Dev nD) (f) : BI.Storable (upEmb : UEmb _ 𝕄) (sPts (F := F) k c f) := by
  unfold sPts; infer_instance
instance vPts_storable (k : Fin 2) (c : Dev nD) (f) : BI.Storable (upEmb : UEmb _ 𝕄) (vPts (F := F) k c f) := by
  unfold vPts; infer_instance

/-- A whole scratch buffer is its two halves, -/
theorem send_split (c : Dev nD) (f : Buf (Elt F) ((c : Thread nD τ).loc cc0_scratch0)) :
    (((c : Thread nD τ).loc cc0_scratch0) ↦{fullShare} f : sProp 𝕄) ⊢ iprop(sPts 0 c f ∗ sPts 1 c f) := by
  unfold sPts; rw [sH_set, sH_set, ← rH_cover]; exact (pointsTo_union rH_disjoint).1
theorem recv_split (c : Dev nD) (f : Buf (Elt F) ((c : Thread nD τ).loc cc0_scratch1)) :
    (((c : Thread nD τ).loc cc0_scratch1) ↦{fullShare} f : sProp 𝕄) ⊢ iprop(vPts 0 c f ∗ vPts 1 c f) := by
  unfold vPts; rw [vH_set, vH_set, ← rH_cover]; exact (pointsTo_union rH_disjoint).1
/-- and its two halves at any contents are the whole buffer at some. -/
theorem send_join (c : Dev nD) (f g : Buf (Elt F) ((c : Thread nD τ).loc cc0_scratch0)) :
    iprop(sPts 0 c f ∗ sPts 1 c g) ⊢ (∃ h : Buf (Elt F) ((c : Thread nD τ).loc cc0_scratch0), ((c : Thread nD τ).loc cc0_scratch0) ↦{fullShare} h : sProp 𝕄) := by
  unfold sPts; rw [sH_set, sH_set, ← rH_cover]
  exact (pointsTo_join rH_disjoint).trans (exists_intro _)
theorem recv_join (c : Dev nD) (f g : Buf (Elt F) ((c : Thread nD τ).loc cc0_scratch1)) :
    iprop(vPts 0 c f ∗ vPts 1 c g) ⊢ (∃ h : Buf (Elt F) ((c : Thread nD τ).loc cc0_scratch1), ((c : Thread nD τ).loc cc0_scratch1) ↦{fullShare} h : sProp 𝕄) := by
  unfold vPts; rw [vH_set, vH_set, ← rH_cover]
  exact (pointsTo_join rH_disjoint).trans (exists_intro _)

end Cert.Permute

end
-- ==== Proof.Schedule.lean ====
/- The protocol: the cells, what each one's unit of credit carries, what a device owes, the order of the waits.

   Five semaphore cells a device.
   * The barrier cell: one unit, paid by `peer c`. When the table swaps the groups it carries the peer's whole
     receive buffer, into which this device then copies; when the table keeps them it carries nothing, since a device
     then copies into its own receive buffer.
   * The receive cells, one for each row half: the half's bytes, paid by the copy of the device the half comes from.
     It carries the receive half, holding that device's rounded half.
   * The send cells, one for each row half: the same bytes, paid by the device's own copy when the source has been
     read. It carries the send half back.
   At launch a device owes its peer's barrier and the two receive cells of the device it copies to. A wait at the
   barrier (level 1) is made while receive credit (level 2) is owed; the waits after the two copies owe nothing. -/
module

public import proofs.«01_k».proof.Proof.Halves

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the two algebras sit in the machine's resources. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg) (b : Bool)

/-! ## The cells -/

abbrev barS : Sem sig := (SemArray.scalar (sig.barrier 0 rfl) : Sems sig S_).sem
/-- The send and the receive semaphore of half `k`, -/
abbrev sS : Fin 2 → DmaSem sig := fun | 0 => ⟨3, by decide⟩ | 1 => ⟨4, by decide⟩
abbrev vS : Fin 2 → DmaSem sig := fun | 0 => ⟨5, by decide⟩ | 1 => ⟨6, by decide⟩
/-- as the kernel names them: slices of its two semaphore arrays. -/
theorem send_sem0 : ((cc0_scratch2.slice (Rect.unit (s := S2) ![0] S1.size inb_S2_S1_0)).squeeze S_ squeezes_S1_S_).sem = sS 0 := rfl
theorem send_sem1 : ((cc0_scratch2.slice (Rect.unit (s := S2) ![1] S1.size inb_S2_S1_1)).squeeze S_ squeezes_S1_S_).sem = sS 1 := rfl
theorem recv_sem0 : ((cc0_scratch3.slice (Rect.unit (s := S2) ![0] S1.size inb_S2_S1_0)).squeeze S_ squeezes_S1_S_).sem = vS 0 := rfl
theorem recv_sem1 : ((cc0_scratch3.slice (Rect.unit (s := S2) ![1] S1.size inb_S2_S1_1)).squeeze S_ squeezes_S1_S_).sem = vS 1 := rfl

abbrev barCell (c : Dev nD) : GSem nD τ sig := ((c : Thread nD τ), .reg barS)
abbrev sCell (k : Fin 2) (c : Dev nD) : GSem nD τ sig := ((c : Thread nD τ), .dma (sS k))
abbrev vCell (k : Fin 2) (c : Dev nD) : GSem nD τ sig := ((c : Thread nD τ), .dma (vS k))

/-- A half's credit. -/
abbrev N : ℕ := (vH 0).view.dmaCredit
theorem N_pos : 0 < N := View.dmaCredit_pos _ (by decide)

/-! ## What the cells carry -/

/-- The rounded half `k` of device `c`'s block, as its send buffer holds it. -/
def half : (k : Fin 2) → (c : Dev nD) → S1x128x256.Idx → Elt F .bf16
  | 0, c => k0_pay1 (((Memref.whole cc0_stg1_0).access (rH 0) : View sig .tc _ _ _).read (Elt F) (xStg m ρ c))
  | 1, c => k0_pay2 (((Memref.whole cc0_stg1_0).access (rH 1) : View sig .tc _ _ _).read (Elt F) (xStg m ρ c))

/-- Device `c`'s whole receive buffer, at some contents. -/
def recvBuf (c : Dev nD) : sProp 𝕄 :=
  iprop(∃ f : Buf (Elt F) ((c : Thread nD τ).loc cc0_scratch1), ((c : Thread nD τ).loc cc0_scratch1) ↦{fullShare} f)

/-- What the barrier unit for `c` carries; what of its own receive buffer a device keeps past its signal. -/
def barPay (c : Dev nD) : sProp 𝕄 := if b then recvBuf (peer c) else iprop(emp)
def kept (c : Dev nD) : sProp 𝕄 := if b then iprop(emp) else recvBuf c
/-- The receive half `k` of `c`, holding what `tgt b c` sent; the send half `k` of `c` back. -/
def recvPay (k : Fin 2) (c : Dev nD) : sProp 𝕄 :=
  iprop(∃ f : Buf (Elt F) ((vH k).view.loc (c : Thread nD τ)), ⌜(vH k).view.read (Elt F) f = half m ρ k (tgt b c)⌝ ∗ vPts k c f)
def sendPay (k : Fin 2) (c : Dev nD) : sProp 𝕄 :=
  iprop(∃ f : Buf (Elt F) ((sH k).view.loc (c : Thread nD τ)), sPts k c f)

instance recvBuf_storable (c : Dev nD) : BI.Storable (upEmb : UEmb _ 𝕄) (recvBuf (F := F) c) := by
  unfold recvBuf; infer_instance
instance barPay_storable (c : Dev nD) : BI.Storable (upEmb : UEmb _ 𝕄) (barPay (F := F) b c) := by
  unfold barPay; split <;> infer_instance
instance recvPay_storable (k : Fin 2) (c : Dev nD) : BI.Storable (upEmb : UEmb _ 𝕄) (recvPay (F := F) m ρ b k c) := by
  unfold recvPay; infer_instance
instance sendPay_storable (k : Fin 2) (c : Dev nD) : BI.Storable (upEmb : UEmb _ 𝕄) (sendPay (F := F) k c) := by
  unfold sendPay; infer_instance

omit [FloatOps F] in
/-- A device's receive buffer is what its signal carries and what it keeps; -/
theorem bar_give (c : Dev nD) : recvBuf c ⊢ (iprop(barPay b (peer c) ∗ kept b c) : sProp 𝕄) := by
  cases b
  · show recvBuf c ⊢ iprop(emp ∗ recvBuf c)
    iintro H; isplitr; · iempintro
    iexact H
  · show recvBuf c ⊢ iprop(recvBuf (peer (peer c)) ∗ emp)
    rw [peer_peer]
    iintro H; isplitl; · iexact H
    iempintro
omit [FloatOps F] in
/-- what its barrier brings and what it kept are the receive buffer it copies into. -/
theorem bar_take (c : Dev nD) : iprop(barPay b c ∗ kept b c) ⊢ (recvBuf (tgt b c) : sProp 𝕄) := by
  cases b
  · show iprop(emp ∗ recvBuf c) ⊢ recvBuf c
    iintro ⟨-, H⟩; iexact H
  · show iprop(recvBuf (peer c) ∗ emp) ⊢ recvBuf (peer c)
    iintro ⟨H, -⟩; iexact H

/-! ## The schedule: one duty a cell, at round 0 -/

def sched : Rounds.Schedule (GSem nD τ sig) Unit 𝕄 where
  duties _ r := if r = 0 then {()} else ∅
  unitless _ := False
  amount g _ _ := match g.2 with | .reg _ => 1 | .dma _ => N
  payload g _ _ := match g.2 with
    | .reg _ => barPay b g.1.1
    | .dma q => if q = vS 0 then recvPay m ρ b 0 g.1.1 else if q = vS 1 then recvPay m ρ b 1 g.1.1
        else if q = sS 0 then sendPay 0 g.1.1 else sendPay 1 g.1.1
  amount_pos g _ _ _ := by
    rcases g with ⟨_, q | q⟩
    · exact Nat.one_pos
    · exact N_pos

instance sched_storable (g : GSem nD τ sig) (r : ℕ) (d : Unit) :
    BI.Storable (upEmb : UEmb _ 𝕄) ((sched (F := F) m ρ b).payload g r d) := by
  rcases g with ⟨t, q | q⟩
  · show BI.Storable upEmb (barPay b t.1); infer_instance
  · show BI.Storable upEmb (if q = vS 0 then recvPay m ρ b 0 t.1 else if q = vS 1 then recvPay m ρ b 1 t.1
        else if q = sS 0 then sendPay 0 t.1 else sendPay 1 t.1)
    (repeat' split) <;> infer_instance

theorem duty_mem (g : GSem nD τ sig) : () ∈ (sched (F := F) m ρ b).duties g 0 := Finset.mem_singleton_self _
theorem duties_later (g : GSem nD τ sig) : ∀ r, 1 ≤ r → (sched (F := F) m ρ b).duties g r = ∅ :=
  fun r hr => if_neg (by omega)

theorem expect_bar (c : Dev nD) : (sched (F := F) m ρ b).expect (barCell c) 0 = 1 := rfl
theorem expect_dma (c : Dev nD) (q : DmaSem sig) : (sched (F := F) m ρ b).expect ((c : Thread nD τ), .dma q) 0 = N := rfl

theorem payload_recv (k : Fin 2) (c : Dev nD) : (sched (F := F) m ρ b).payload (vCell k c) 0 () = recvPay m ρ b k c := by
  fin_cases k <;> rfl
theorem payload_send (k : Fin 2) (c : Dev nD) : (sched (F := F) m ρ b).payload (sCell k c) 0 () = sendPay k c := by
  fin_cases k <;> rfl

/-- What a wait that takes a cell's whole round receives. -/
theorem rest_of (g : GSem nD τ sig) :
    bigSep ((sched (F := F) m ρ b).duties g 0 \ ∅) (fun d => (sched (F := F) m ρ b).payload g 0 d) = (sched (F := F) m ρ b).payload g 0 () := by
  rw [Finset.sdiff_empty]; exact bigSep_singleton

/-! ## What a device owes, and the levels -/

/-- Past its signal and its first copy; past its signal; at launch. -/
def O₂ (c : Dev nD) : CellTallies nD τ sig Unit := tallyAt (vCell 1 (tgt b c)) () N
def O₁ (c : Dev nD) : CellTallies nD τ sig Unit := O₂ b c + tallyAt (vCell 0 (tgt b c)) () N
def O₀ (c : Dev nD) : CellTallies nD τ sig Unit := O₁ b c + tallyAt (barCell (peer c)) () 1

def L (g : GSem nD τ sig) : Finset Unit := if g.1.2 = .tc then {()} else ∅
/-- Barrier cells at level 1, receive cells at 2, send and staging cells at 0. -/
def lv (g : GSem nD τ sig) (_ : Unit) : ℕ := match g.2 with
  | .reg _ => 1
  | .dma q => if q = vS 0 ∨ q = vS 1 then 2 else 0

theorem L_of_ne (g : GSem nD τ sig) (h : g.1.2 ≠ .tc) : L g = ∅ := if_neg h
theorem L_mem (c : Dev nD) (sm : SemLoc sig) (u : Unit) : u ∈ L ((c : Thread nD τ), sm) := by
  rw [L, if_pos rfl]; exact Finset.mem_singleton_self _
theorem lv_recv (k : Fin 2) (c : Dev nD) : lv (vCell k c) () = 2 := by fin_cases k <;> rfl

theorem tally_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

theorem O₁_pos {c : Dev nD} {g : GSem nD τ sig} {u : Unit} (h : 0 < O₁ b c g u) : ∃ k, g = vCell k (tgt b c) := by
  rcases Nat.add_pos_iff_pos_or_pos.1 (show 0 < O₂ b c g u + tallyAt (vCell 0 (tgt b c)) () N g u from h) with h | h
  · exact ⟨1, tally_pos h⟩
  · exact ⟨0, tally_pos h⟩
theorem O₀_pos {c : Dev nD} {g : GSem nD τ sig} {u : Unit} (h : 0 < O₀ b c g u) :
    (∃ k, g = vCell k (tgt b c)) ∨ g = barCell (peer c) := by
  rcases Nat.add_pos_iff_pos_or_pos.1 (show 0 < O₁ b c g u + tallyAt (barCell (peer c)) () 1 g u from h) with h | h
  · exact .inl (O₁_pos b h)
  · exact .inr (tally_pos h)

omit [FloatOps F] in
/-- The pipeline's own waits, at a cell that is no receive cell: below everything the device owes. -/
theorem mayWait_stage (c : Dev nD) (q : DmaSem sig) (hq : ¬ (q = vS 0 ∨ q = vS 1)) (O : CellTallies nD τ sig Unit)
    (hO : O = O₀ b c ∨ O = 0) : (levAts L lv : sProp 𝕄) ⊢ MayWait (c : Thread nD τ) (.dma q) () O := by
  rcases hO with rfl | rfl
  · refine MayOwe.of_cut (L := L) (lev := lv) 0 (fun p hp => L_mem _ _ _) (fun g u hg => ?_) (fun p hp => ?_) (fun g u hg => ?_)
    · rcases O₀_pos b hg with ⟨k, rfl⟩ | rfl <;> exact L_mem _ _ _
    · rw [Finset.mem_singleton.mp hp]; exact le_of_eq (if_neg hq)
    · rcases O₀_pos b hg with ⟨k, rfl⟩ | rfl
      · rw [lv_recv]; decide
      · exact Nat.one_pos
  · rw [MayWait_zero]; iintro -; iempintro

omit [FloatOps F] in
/-- The barrier wait: the device owes the two receive cells it has yet to copy to. -/
theorem mayWait_bar (c : Dev nD) : (levAts L lv : sProp 𝕄) ⊢ MayWait (c : Thread nD τ) (.reg barS) () (O₁ b c) := by
  refine MayOwe.of_cut (L := L) (lev := lv) 1 (fun p hp => L_mem _ _ _) (fun g u hg => ?_) (fun p hp => by rw [Finset.mem_singleton.mp hp]; exact le_refl 1) (fun g u hg => ?_)
  · obtain ⟨k, rfl⟩ := O₁_pos b hg; exact L_mem _ _ _
  · obtain ⟨k, rfl⟩ := O₁_pos b hg; rw [lv_recv]; decide

end Cert.Permute

end
-- ==== Proof.Steps.lean ====
/- What the kernel computes on a device, and the protocol's steps as the body takes them.

   `outAt b c`: every element of device `c`'s result is the element of `tgt b c`'s block at the same place, rounded to
   bfloat16 and widened back. The two row halves the body stores make up exactly that, whatever the result's staging
   buffer held before. -/
module

public import proofs.«01_k».proof.Proof.Schedule
public import Idealize.ShloMosaic.Lib.Pipeline.Value

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (b : Bool)

abbrev 𝒱₀ : Variants := Variants.none

/-! ## The result -/

/-- An element through bfloat16 and back. -/
def through (v : Elt F .f32) : Elt F .f32 := FloatOps.extf .f32 bitsLt_bf16_f32 (FloatOps.truncf .bf16 bitsLt_bf16_f32 v)

/-- Device `c`'s result. -/
def outAt (c : Dev nD) : (cc0_stg2_0 : Ref sig .tc).ty.Contents (Elt F) := fun i => through (xStg m ρ (tgt b c) i)

/-- The two stored halves, element by element. -/
theorem pay3_half (d : Dev nD) (j : S1x128x256.Idx) : k0_pay3 (half m ρ 0 d) j = through (xStg m ρ d ((rH 0).emb j)) := by
  unfold half k0_pay3 k0_pay1
  simp only [shapeCast_self]
  rfl
theorem pay4_half (d : Dev nD) (j : S1x128x256.Idx) : k0_pay4 (half m ρ 1 d) j = through (xStg m ρ d ((rH 1).emb j)) := by
  unfold half k0_pay4 k0_pay2
  simp only [shapeCast_self]
  rfl

/-- The result's staging buffer, its half `k`'s view. -/
abbrev oV (k : Fin 2) : View sig .tc .vmem S1x128x256 .f32 := (Memref.whole cc0_stg2_0).access (rH k)

theorem oV_set (k : Fin 2) : (oV k).setOn Finset.univ = (rH k).set := View.set_slice_whole _ _

/-- The two stores leave `outAt`. -/
theorem out_eq (c : Dev nD) (g : (cc0_stg2_0 : Ref sig .tc).ty.Contents (Elt F)) :
    (oV 1).write (Elt F) ((oV 0).write (Elt F) g (k0_pay3 (half m ρ 0 (tgt b c))) Finset.univ) (k0_pay4 (half m ρ 1 (tgt b c))) Finset.univ
      = outAt m ρ b c := by
  funext i
  by_cases h1 : i ∈ (rH 1).set
  · have h1' := h1
    rw [← Rect.map_emb_univ, Finset.mem_map] at h1'
    obtain ⟨j, -, rfl⟩ := h1'
    refine ((oV 1).write_emb_of_mem _ _ (Finset.mem_univ j)).trans ?_
    exact pay4_half m ρ (tgt b c) j
  · refine ((oV 1).write_of_not_mem _ _ Finset.univ (by rw [oV_set]; exact h1)).trans ?_
    have h0 : i ∈ (rH 0).set := by
      have := Finset.mem_univ i; rw [← rH_cover, Finset.mem_union] at this
      exact this.resolve_right h1
    rw [← Rect.map_emb_univ, Finset.mem_map] at h0
    obtain ⟨j, -, rfl⟩ := h0
    refine ((oV 0).write_emb_of_mem _ _ (Finset.mem_univ j)).trans ?_
    exact pay3_half m ρ (tgt b c) j

/-! ## The body's steps at the two scratch buffers -/

section Steps

/-- The whole send and receive buffer, which the body's loads and stores name. -/
abbrev sB : Memref sig .tc .vmem S1x256x256 .bf16 := Memref.whole cc0_scratch0
abbrev vB : Memref sig .tc .vmem S1x256x256 .bf16 := Memref.whole cc0_scratch1

/-- A store of a half into the send buffer: the half then reads as what was stored. -/
theorem wp_fill {α : Type} {Q : α → sProp 𝕄} (k : Fin 2) (c : Dev nD) (f : Buf (Elt F) ((sH k).view.loc (c : Thread nD τ))) (w : S1x128x256.Idx → Elt F .bf16)
    {hx : (sB.access (rH k) : View sig .tc _ _ _).Stores Finset.univ} {hm : (Finset.univ : Finset (rH k).shape.Idx) = Finset.univ ∨ ∀ a, (rH k).stride a = 1}
    {kk : PUnit → Prog (TpuEff nD τ sig (Elt F) Λ₀ .tc) α} :
    sPts k c f ⊢ iprop(((∃ f' : Buf (Elt F) ((sH k).view.loc (c : Thread nD τ)), ⌜(sH k).view.read (Elt F) f' = w⌝ ∗ sPts k c f')
          -∗ wp frame (wpE (defs₀ (F := F)) 𝒱₀ (c : Thread nD τ) none) Set.univ (kk ⟨⟩) Q)
        -∗ wp frame (wpE (defs₀ (F := F)) 𝒱₀ (c : Thread nD τ) none) Set.univ (.op (.store sB (rH k) w Finset.univ hx hm) kk) Q) := by
  unfold sPts
  iintro H Hk
  iapply (wp_store 𝒱₀ (c : Thread nD τ) none Set.univ (m := sB) (r := rH k) (Mk := Finset.univ) (S := (sH k).view.set) (Finset.Subset.refl _)) $$ H
  iintro H
  iapply Hk
  iexists _
  isplitr; swap; · iexact H
  ipureintro
  exact View.read_write_univ (v := (sH k).view) f w

/-- The dead load before it. -/
theorem wp_look {α : Type} {Q : α → sProp 𝕄} (k : Fin 2) (c : Dev nD) (f : Buf (Elt F) ((sH k).view.loc (c : Thread nD τ)))
    {hl : sB.view.LoadsAt (rH k).toLoadRect} {kk : (S1x128x256.Idx → Elt F .bf16) → Prog (TpuEff nD τ sig (Elt F) Λ₀ .tc) α} :
    sPts k c f ⊢ iprop((sPts k c f -∗ wp frame (wpE (defs₀ (F := F)) 𝒱₀ (c : Thread nD τ) none) Set.univ (kk ((sH k).view.read (Elt F) f)) Q)
        -∗ wp frame (wpE (defs₀ (F := F)) 𝒱₀ (c : Thread nD τ) none) Set.univ (.op (.load sB (rH k).toLoadRect hl) kk) Q) := by
  unfold sPts
  exact wp_load_rect 𝒱₀ (c : Thread nD τ) none Set.univ (m := sB) (r := rH k) (S := (sH k).view.set) (Finset.Subset.refl _)

/-- The load of a landed half. -/
theorem wp_landed {α : Type} {Q : α → sProp 𝕄} (k : Fin 2) (c : Dev nD) (f : Buf (Elt F) ((vH k).view.loc (c : Thread nD τ)))
    {hl : vB.view.LoadsAt (rH k).toLoadRect} {kk : (S1x128x256.Idx → Elt F .bf16) → Prog (TpuEff nD τ sig (Elt F) Λ₀ .tc) α} :
    vPts k c f ⊢ iprop((vPts k c f -∗ wp frame (wpE (defs₀ (F := F)) 𝒱₀ (c : Thread nD τ) none) Set.univ (kk ((vH k).view.read (Elt F) f)) Q)
        -∗ wp frame (wpE (defs₀ (F := F)) 𝒱₀ (c : Thread nD τ) none) Set.univ (.op (.load vB (rH k).toLoadRect hl) kk) Q) := by
  unfold vPts
  exact wp_load_rect 𝒱₀ (c : Thread nD τ) none Set.univ (m := vB) (r := rH k) (S := (vH k).view.set) (Finset.Subset.refl _)

theorem amount_half (k : Fin 2) : (vH k).view.amount (.dma (vS k)) = N := by fin_cases k <;> rfl

/-- The copy of half `k`, addressed to `n = tgt b c`: the send half goes with the send duty, the receive half of `n`,
    holding `c`'s rounded half, with the receive duty. -/
theorem wp_copy {α : Type} {Q : α → sProp 𝕄} (k : Fin 2) (c n : Dev nD) (hn : n = tgt b c) (κs κv : ℕ) {hsc : (vH k).view.ref.isScScratch = false}
    {hsrc : (sH k).view.WordExact} {hdst : (vH k).view.WordExact}
    {hsem : DmaTarget.Typed .vmem (.dma (vS k)) (.remote (Dev.tc n : Thread nD τ) (vH k : Memref sig (Dev.tc n : Thread nD τ).2.kind .vmem S1x128x256 .bf16) (.dma (sS k)) hsc)}
    {kk : PUnit → Prog (TpuEff nD τ sig (Elt F) Λ₀ .tc) α}
    (fs : Buf (Elt F) ((sH k).view.loc (c : Thread nD τ))) (hfs : (sH k).view.read (Elt F) fs = half m ρ k c)
    (fd : Buf (Elt F) ((vH k).view.loc (tgt b c : Thread nD τ))) (O O' : CellTallies nD τ sig Unit) (hO : O' = O + tallyAt (vCell k (tgt b c)) () N) (W : Waits sig Unit) :
    iprop(cellInv ER (sched m ρ b) κs (sCell k c) ∗ cellInv ER (sched m ρ b) κv (vCell k (tgt b c))
        ∗ sPts k c fs ∗ vPts k (tgt b c) fd ∗ owes (c : Thread nD τ) O' W
        ∗ dutyTok ER (sCell k c) 0 () ∗ reached ER (sCell k c) 0
        ∗ dutyTok ER (vCell k (tgt b c)) 0 () ∗ reached ER (vCell k (tgt b c)) 0)
      ⊢ iprop(((cred (tallyAt (sCell k c) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sH k) (.remote (Dev.tc n : Thread nD τ) (vH k) (.dma (sS k)) hsc) (.dma (vS k)) hsrc hdst hsem) kk) Q) := by
  subst hn
  unfold sPts vPts
  exact Rounds.wp_send_pointsTo 𝒱₀ ER (sched m ρ b) (c : Thread nD τ) none (κ₁ := κs) (κ₂ := κv)
    (r₁ := 0) (r₂ := 0) (d₁ := ()) (d₂ := ()) (fd := fd)
    (duty_mem m ρ b _) (duty_mem m ρ b _) () () N (amount_half k) rfl rfl O hO (W := W)
    (by rw [payload_send]; unfold sendPay sPts; exact exists_intro _)
    (by
      rw [payload_recv]
      unfold recvPay vPts
      rw [tgt_tgt, ← hfs]
      iintro H
      iexists _
      isplitr; swap; · iexact H
      ipureintro
      exact View.read_write_univ (v := (vH k).view) fd _)

/-- A wait for a half's bytes at its own cell `q`, nothing owed: the round's whole payload, in the order's terms `P`. -/
theorem wp_take {α : Type} {Q : α → sProp 𝕄} (c : Dev nD) (κ : ℕ) (q : DmaSem sig) {n : DmaSem sig} (hn : n = q) (P : sProp 𝕄)
    (hP : (sched m ρ b).payload ((c : Thread nD τ), .dma q) 0 () = P)
    {s₁ s₂ : Shape} {e₁ e₂ : EltTy} {src : Memref sig .tc .vmem s₁ e₁} {dst : Memref sig .tc .vmem s₂ e₂}
    {hsrc : src.view.WordExact} {hdst : dst.view.WordExact} (hc : dst.view.dmaCredit = N) (W : Waits sig Unit)
    {kk : PUnit → Prog (TpuEff nD τ sig (Elt F) Λ₀ .tc) α} :
    iprop(cellInv ER (sched m ρ b) κ ((c : Thread nD τ), .dma q) ∗ cred (tallyAt ((c : Thread nD τ), .dma q) () N)
        ∗ owes (c : Thread nD τ) 0 W ∗ atPos ER ((c : Thread nD τ), .dma q) 0 ∅ 0)
      ⊢ iprop(((owes (c : Thread nD τ) 0 (insert (SemLoc.dma q, ()) W) ∗ atPos ER ((c : Thread nD τ), .dma q) (0 + 1) ∅ 0 ∗ P)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 n src dst hsrc hdst) kk) Q) := by
  subst hn
  iintro ⟨#HI, Hc, HO, Ha⟩ Hk
  iapply (Rounds.wp_wait_rest_token 𝒱₀ ER (sched m ρ b) (c : Thread nD τ) none (κ := κ) (sm := .dma n) (k' := N)
      (fun K => (wpE_waitDma2_eq 𝒱₀ (c : Thread nD τ) none Set.univ K).trans (by rw [hc])) (Set.mem_univ _) () (O := 0) (W := W) (R := 0) (m := 0) (T := ∅)
      (by rw [Nat.zero_add]; exact (expect_dma m ρ b c n).symm)) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hpay := (Entails.of_eq ((rest_of m ρ b ((c : Thread nD τ), .dma n)).trans hP)) $$ Hpay
  iapply Hk
  isplitl [HO]; · iexact HO
  isplitl [Ha] <;> iassumption

end Steps

end Cert.Permute

end
-- ==== Proof.Body.lean ====
/- The kernel's body on a device `c`, run once for every device and for both tables (`b`): from what the launch hands
   the device (`Φ₀`) to `Φ₁`, leaving `outAt` in the result's staging buffer. -/
module

public import proofs.«01_k».proof.Proof.Steps

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg) (b : Bool)

/-! ## What a device starts from and ends with -/

/-- The names of the cells' invariants: barrier 0, send 1 and 2, receive 3 and 4. -/
abbrev Names : Type := Dev nD × Fin 5 → ℕ

/-- The invariants `c`'s body opens: its own five, its peer's barrier, the receive cells it copies to. -/
def invs (K : Names) (c : Dev nD) : sProp 𝕄 :=
  iprop(cellInv ER (sched m ρ b) (K (c, 0)) (barCell c)
    ∗ cellInv ER (sched m ρ b) (K (c, 1)) (sCell 0 c) ∗ cellInv ER (sched m ρ b) (K (c, 2)) (sCell 1 c)
    ∗ cellInv ER (sched m ρ b) (K (c, 3)) (vCell 0 c) ∗ cellInv ER (sched m ρ b) (K (c, 4)) (vCell 1 c)
    ∗ cellInv ER (sched m ρ b) (K (peer c, 0)) (barCell (peer c))
    ∗ cellInv ER (sched m ρ b) (K (tgt b c, 3)) (vCell 0 (tgt b c)) ∗ cellInv ER (sched m ρ b) (K (tgt b c, 4)) (vCell 1 (tgt b c)))

instance invs_persistent (K : Names) (c : Dev nD) : BI.Persistent (invs m ρ b K c) := by unfold invs; infer_instance

/-- Its positions at its five cells. -/
def places (c : Dev nD) : sProp 𝕄 :=
  iprop(atPos ER (barCell c) 0 ∅ 0 ∗ atPos ER (sCell 0 c) 0 ∅ 0 ∗ atPos ER (sCell 1 c) 0 ∅ 0
    ∗ atPos ER (vCell 0 c) 0 ∅ 0 ∗ atPos ER (vCell 1 c) 0 ∅ 0)

/-- That the cells it pays have reached round 0. -/
def marks (c : Dev nD) : sProp 𝕄 :=
  iprop(reached ER (barCell (peer c)) 0 ∗ reached ER (sCell 0 c) 0 ∗ reached ER (sCell 1 c) 0
    ∗ reached ER (vCell 0 (tgt b c)) 0 ∗ reached ER (vCell 1 (tgt b c)) 0)

instance marks_persistent (c : Dev nD) : BI.Persistent (marks (F := F) b c) := by unfold marks; infer_instance

/-- The duties it pays. -/
def duties (c : Dev nD) : sProp 𝕄 :=
  iprop(dutyTok ER (barCell (peer c)) 0 () ∗ dutyTok ER (sCell 0 c) 0 () ∗ dutyTok ER (sCell 1 c) 0 ()
    ∗ dutyTok ER (vCell 0 (tgt b c)) 0 () ∗ dutyTok ER (vCell 1 (tgt b c)) 0 ())

def ghost (K : Names) (c : Dev nD) : sProp 𝕄 :=
  iprop(invs m ρ b K c ∗ places c ∗ marks b c ∗ duties b c)

/-- The launch's credit to it: its barrier's unit and its receive cells'. -/
def credits (c : Dev nD) : sProp 𝕄 :=
  iprop(cred (tallyAt (barCell c) () 1) ∗ cred (tallyAt (vCell 0 c) () N) ∗ cred (tallyAt (vCell 1 c) () N))

def start (c : Dev nD) : sProp 𝕄 := iprop((∃ K, ghost m ρ b K c) ∗ credits c ∗ levAts L lv)

def sendBuf (c : Dev nD) : sProp 𝕄 :=
  iprop(∃ f : Buf (Elt F) ((c : Thread nD τ).loc cc0_scratch0), ((c : Thread nD τ).loc cc0_scratch0) ↦{fullShare} f)

/-- The five counters at zero. -/
def counters (c : Dev nD) : sProp 𝕄 :=
  iprop(semVal (sCell 0 c) 0 ∗ semVal (sCell 1 c) 0 ∗ semVal (vCell 0 c) 0 ∗ semVal (vCell 1 c) 0 ∗ semVal (barCell c) 0)

def Φ₀ (c : Dev nD) : sProp 𝕄 := iprop(start m ρ b c ∗ sendBuf c ∗ recvBuf c)
def Φ₁ (c : Dev nD) : sProp 𝕄 := iprop(sendBuf c ∗ recvBuf c ∗ counters c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => piStg m ρ c
    | ⟨1, _⟩ => xStg m ρ c
    | ⟨2, _⟩ => outAt m ρ b c
  Φ t := match t with
    | ⟨0, _⟩ => Φ₀ m ρ b c
    | ⟨_ + 1, _⟩ => Φ₁ c
  q _ := fullShare
  owed t := match t with
    | ⟨0, _⟩ => O₀ b c
    | ⟨_ + 1, _⟩ => 0

/-! ## The run -/

omit [FloatOps F] in
theorem owns_whole_eq (c : Dev nD) (r : Ref sig .tc) (X : r.ty.Contents (Elt F)) :
    (owns (Ix := Unit) (Name := ℕ) (U := UU) (Lvl := ℕ) (c : Thread nD τ) (Memref.whole r) fullShare X : sProp 𝕄)
      = iprop(∃ f : Buf (Elt F) (((c : Dev nD) : Thread nD τ).loc r), ⌜f = X⌝ ∗ (((c : Thread nD τ).loc r) ↦{fullShare} f)) := by
  unfold owns; simp only [Memref.view_whole, View.read_whole, View.set_whole]

abbrev stg (c : Dev nD) (r : Ref sig .tc) (X : r.ty.Contents (Elt F)) : sProp 𝕄 :=
  iprop(∃ f : Buf (Elt F) (((c : Dev nD) : Thread nD τ).loc r), ⌜f = X⌝ ∗ (((c : Thread nD τ).loc r) ↦{fullShare} f))

def staged (c : Dev nD) : sProp 𝕄 :=
  iprop((dats m ρ b 0 c).owesAt () t0_0.castSucc
    ∗ (∃ d, stg c cc0_stg0_0 ((dats m ρ b 0 c).before (0 : Fin 3) t0_0 d))
    ∗ (∃ d, stg c cc0_stg1_0 ((dats m ρ b 0 c).before (1 : Fin 3) t0_0 d))
    ∗ (∃ d, stg c cc0_stg2_0 ((dats m ρ b 0 c).before (2 : Fin 3) t0_0 d)))

def bodyPre (K : Names) (c : Dev nD) : sProp 𝕄 :=
  iprop((ghost m ρ b K c ∗ credits c ∗ levAts L lv) ∗ (sendBuf c ∗ recvBuf c) ∗ staged m ρ b c)

def bodyPost (c : Dev nD) : sProp 𝕄 :=
  iprop(Φ₁ c ∗ (dats m ρ b 0 c).owesAt () t0_0.succ
    ∗ stg c cc0_stg0_0 (piStg m ρ c) ∗ stg c cc0_stg1_0 (xStg m ρ c) ∗ stg c cc0_stg2_0 (outAt m ρ b c))

/-- The staging buffers the body loads from and stores to. -/
abbrev pB : Memref sig .tc .smem S2 .i32 := Memref.whole cc0_stg0_0
abbrev xB : Memref sig .tc .vmem S1x256x256 .f32 := Memref.whole cc0_stg1_0
abbrev oB : Memref sig .tc .vmem S1x256x256 .f32 := Memref.whole cc0_stg2_0

variable {m} in
set_option maxHeartbeats 8000000 in
set_option maxRecDepth 4000 in
/-- The body, one rule for each effect in program order. -/
theorem sound_body (h : TableIs m b) (K : Names) (c : Dev nD) (Kt : PUnit → sProp 𝕄) :
    iprop(bodyPre m ρ b K c ∗ (bodyPost m ρ b c -∗ Kt ⟨⟩))
      ⊢ wp frame (wpE (defs₀ (F := F)) 𝒱₀ c none) Set.univ
          (cc0_body pB (Memref.isWhole_whole _) xB (Memref.isWhole_whole _) oB (Memref.isWhole_whole _)
            sB (Memref.isWhole_whole _) vB (Memref.isWhole_whole _) cc0_scratch2 cc0_scratch3) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, smemLoad, smemLoadElt, Prog.lift, Prog.bind_op, Prog.bind_ret, Prog.pure_eq_ret, Prog.bind_assoc, wp_deviceId]
  unfold bodyPre ghost invs places marks duties credits sendBuf staged
  iintro ⟨⟨⟨⟨⟨#HIb, #HIs0, #HIs1, #HIv0, #HIv1, #HIbP, #HIt0, #HIt1⟩, ⟨HaB, HaS0, HaS1, HaV0, HaV1⟩,
      ⟨#HrB, #HrS0, #HrS1, #HrV0, #HrV1⟩, ⟨HtB, HtS0, HtS1, HtV0, HtV1⟩⟩, ⟨HcB, HcV0, HcV1⟩, #Hlev⟩,
    ⟨⟨%fs, Hs⟩, Hv⟩, Ho, ⟨%d0, %g0, %hg0, Hp⟩, ⟨%d1, %g1, %hg1, Hx⟩, ⟨%d2, %g2, %hg2, Hout⟩⟩, Hk⟩
  have hp : g0 = piStg m ρ c := by rw [hg0]; unfold Dat.before; rw [if_pos (fetch0_0 t0_0)]; rfl
  subst hp
  have hx : g1 = xStg m ρ c := by rw [hg1]; unfold Dat.before; rw [if_pos (fetch0_1 t0_0)]; rfl
  subst hx
  unfold Dat.owesAt owesWithin
  icases Ho with ⟨%W, %hW, HO⟩
  rw [show (dats m ρ b 0 c).owed t0_0.castSucc = O₀ b c from rfl]
  simp only [dev1_eq c]
  -- the signal to the peer's barrier, with whatever of the receive buffer the peer copies into
  ihave Hv := (show _ ⊢ _ from bar_give b c) $$ Hv
  icases Hv with ⟨Hgive, Hkeep⟩
  iapply (Rounds.wp_signal 𝒱₀ ER (sched m ρ b) (c : Thread nD τ) none (dst := (peer c : Thread nD τ)) (κ := K (peer c, 0))
      (d := ()) (duty_mem m ρ b _) (show (1 : ℕ) = _ by decide) () (O₁ b c) rfl)
    $$ [HO HtB Hgive]
  · isplitr; · iexact HIbP
    isplitl [HO]; · iexact HO
    isplitl [HtB]; · iexact HtB
    isplitl [Hgive]; · iapply (show barPay b (peer c) ⊢ (sched m ρ b).payload (barCell (peer c)) 0 () from .refl); iexact Hgive
    iexact HrB
  iintro HO
  -- the first half, rounded into the send buffer
  ihave Hs := (send_split c fs) $$ Hs
  icases Hs with ⟨Hs0, Hs1⟩
  iapply (wp_load_rect 𝒱₀ (c : Thread nD τ) none Set.univ (m := xB) (r := rH 0) (Finset.subset_univ _)) $$ Hx; iintro Hx
  iapply (wp_look 0 c fs) $$ Hs0; iintro Hs0
  iapply (wp_fill 0 c fs (half m ρ 0 c)) $$ Hs0; iintro ⟨%fs0, %hs0, Hs0⟩
  -- the barrier: the receive buffer of the device it copies to
  iapply (Rounds.wp_wait_rest_token 𝒱₀ ER (sched m ρ b) (c : Thread nD τ) none (κ := K (c, 0))
      (wpE_semWait_eq 𝒱₀ (c : Thread nD τ) none Set.univ) (Set.mem_univ _) () (O := O₁ b c) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar b c); iexact Hlev
    iexact HaB
  iintro ⟨HO, HaB, -, Hpay⟩
  ihave Hpay := (Entails.of_eq (rest_of m ρ b (barCell c))) $$ Hpay
  ihave Hv := (show iprop((sched m ρ b).payload (barCell c) 0 () ∗ kept b c) ⊢ recvBuf (tgt b c) from bar_take b c) $$ [Hpay Hkeep]
  · isplitl [Hpay] <;> iassumption
  unfold recvBuf
  icases Hv with ⟨%fv, Hv⟩
  ihave Hv := (recv_split (tgt b c) fv) $$ Hv
  icases Hv with ⟨Hv0, Hv1⟩
  -- the table's word, read twice
  iapply (wp_load_rect 𝒱₀ (c : Thread nD τ) none Set.univ (m := pB) (r := rPi c) (Finset.subset_univ _)) $$ Hp; iintro Hp
  simp only [wp_assume_of _ _ _ _ (d := k0_chk1.dec _ _) (chk1_of (word_eq ρ h c))]
  iapply (wp_load_rect 𝒱₀ (c : Thread nD τ) none Set.univ (m := pB) (r := rPi c) (Finset.subset_univ _)) $$ Hp; iintro Hp
  simp only [wp_assume_of _ _ _ _ (d := k0_chk2.dec _ _) (chk2_of (word_eq ρ h c))]
  -- the first copy
  iapply (wp_copy m ρ b 0 c _ (dev2_eq (word_eq ρ h c) (chk1_of (word_eq ρ h c))) (K (c, 1)) (K (tgt b c, 3)) fs0 hs0 fv (O₂ b c) (O₁ b c) rfl
      (insert (SemLoc.reg barS, ()) W)) $$ [Hs0 Hv0 HO HtS0 HtV0]
  · isplitr; · iexact HIs0
    isplitr; · iexact HIt0
    isplitl [Hs0]; · iexact Hs0
    isplitl [Hv0]; · iexact Hv0
    isplitl [HO]; · iexact HO
    isplitl [HtS0]; · iexact HtS0
    isplitr; · iexact HrS0
    isplitl [HtV0]; · iexact HtV0
    iexact HrV0
  iintro ⟨HcS0, HO⟩
  -- the second half and its copy
  iapply (wp_load_rect 𝒱₀ (c : Thread nD τ) none Set.univ (m := xB) (r := rH 1) (Finset.subset_univ _)) $$ Hx; iintro Hx
  iapply (wp_look 1 c fs) $$ Hs1; iintro Hs1
  iapply (wp_fill 1 c fs (half m ρ 1 c)) $$ Hs1; iintro ⟨%fs1, %hs1, Hs1⟩
  iapply (wp_copy m ρ b 1 c _ (dev3_eq (word_eq ρ h c) (chk2_of (word_eq ρ h c))) (K (c, 2)) (K (tgt b c, 4)) fs1 hs1 fv 0 (O₂ b c) (zero_add _).symm
      (insert (SemLoc.reg barS, ()) W)) $$ [Hs1 Hv1 HO HtS1 HtV1]
  · isplitr; · iexact HIs1
    isplitr; · iexact HIt1
    isplitl [Hs1]; · iexact Hs1
    isplitl [Hv1]; · iexact Hv1
    isplitl [HO]; · iexact HO
    isplitl [HtS1]; · iexact HtS1
    isplitr; · iexact HrS1
    isplitl [HtV1]; · iexact HtV1
    iexact HrV1
  iintro ⟨HcS1, HO⟩
  -- the first landed half
  iapply (wp_take m ρ b c (K (c, 3)) (vS 0) recv_sem0 (recvPay m ρ b 0 c) (payload_recv m ρ b 0 c) (by rfl) (insert (SemLoc.reg barS, ()) W)) $$ [HcV0 HO HaV0]
  · isplitr; · iexact HIv0
    isplitl [HcV0]; · iexact HcV0
    isplitl [HO] <;> iassumption
  iintro ⟨HO, HaV0, Hpay⟩
  unfold recvPay
  icases Hpay with ⟨%fr0, %hr0, Hv0⟩
  iapply (wp_landed 0 c fr0) $$ Hv0; iintro Hv0
  rw [hr0]
  iapply (wp_load_rect 𝒱₀ (c : Thread nD τ) none Set.univ (m := oB) (r := rH 0) (Finset.subset_univ _)) $$ Hout; iintro Hout
  iapply (wp_store 𝒱₀ (c : Thread nD τ) none Set.univ (m := oB) (r := rH 0) (Mk := Finset.univ) (Finset.subset_univ _)) $$ Hout; iintro Hout
  -- the second
  iapply (wp_take m ρ b c (K (c, 4)) (vS 1) recv_sem1 (recvPay m ρ b 1 c) (payload_recv m ρ b 1 c) (by rfl) (insert (SemLoc.dma (vS 0), ()) (insert (SemLoc.reg barS, ()) W))) $$ [HcV1 HO HaV1]
  · isplitr; · iexact HIv1
    isplitl [HcV1]; · iexact HcV1
    isplitl [HO] <;> iassumption
  iintro ⟨HO, HaV1, Hpay⟩
  unfold recvPay
  icases Hpay with ⟨%fr1, %hr1, Hv1⟩
  iapply (wp_landed 1 c fr1) $$ Hv1; iintro Hv1
  rw [hr1]
  iapply (wp_load_rect 𝒱₀ (c : Thread nD τ) none Set.univ (m := oB) (r := rH 1) (Finset.subset_univ _)) $$ Hout; iintro Hout
  iapply (wp_store 𝒱₀ (c : Thread nD τ) none Set.univ (m := oB) (r := rH 1) (Mk := Finset.univ) (Finset.subset_univ _)) $$ Hout; iintro Hout
  -- the send halves come back
  iapply (wp_take m ρ b c (K (c, 1)) (sS 0) send_sem0 (sendPay 0 c) (payload_send m ρ b 0 c) (by rfl) (insert (SemLoc.dma (vS 1), ()) (insert (SemLoc.dma (vS 0), ()) (insert (SemLoc.reg barS, ()) W)))) $$ [HcS0 HO HaS0]
  · isplitr; · iexact HIs0
    isplitl [HcS0]; · iexact HcS0
    isplitl [HO] <;> iassumption
  iintro ⟨HO, HaS0, Hpay⟩
  unfold sendPay
  icases Hpay with ⟨%fb0, Hs0⟩
  iapply (wp_take m ρ b c (K (c, 2)) (sS 1) send_sem1 (sendPay 1 c) (payload_send m ρ b 1 c) (by rfl) (insert (SemLoc.dma (sS 0), ()) (insert (SemLoc.dma (vS 1), ()) (insert (SemLoc.dma (vS 0), ()) (insert (SemLoc.reg barS, ()) W))))) $$ [HcS1 HO HaS1]
  · isplitr; · iexact HIs1
    isplitl [HcS1]; · iexact HcS1
    isplitl [HO] <;> iassumption
  iintro ⟨HO, HaS1, Hpay⟩
  unfold sendPay
  icases Hpay with ⟨%fb1, Hs1⟩
  -- the five cells close
  imod (Rounds.cell_close ER (sched m ρ b) (Set.mem_univ (K (c, 0))) (fun h => h) (R := 0 + 1) (duties_later m ρ b (barCell c))) $$ [HaB] with HzB
  · isplitr; · iexact HIb
    iexact HaB
  imod (Rounds.cell_close ER (sched m ρ b) (Set.mem_univ (K (c, 1))) (fun h => h) (R := 0 + 1) (duties_later m ρ b (sCell 0 c))) $$ [HaS0] with HzS0
  · isplitr; · iexact HIs0
    iexact HaS0
  imod (Rounds.cell_close ER (sched m ρ b) (Set.mem_univ (K (c, 2))) (fun h => h) (R := 0 + 1) (duties_later m ρ b (sCell 1 c))) $$ [HaS1] with HzS1
  · isplitr; · iexact HIs1
    iexact HaS1
  imod (Rounds.cell_close ER (sched m ρ b) (Set.mem_univ (K (c, 3))) (fun h => h) (R := 0 + 1) (duties_later m ρ b (vCell 0 c))) $$ [HaV0] with HzV0
  · isplitr; · iexact HIv0
    iexact HaV0
  imod (Rounds.cell_close ER (sched m ρ b) (Set.mem_univ (K (c, 4))) (fun h => h) (R := 0 + 1) (duties_later m ρ b (vCell 1 c))) $$ [HaV1] with HzV1
  · isplitr; · iexact HIv1
    iexact HaV1
  rw [wp_ret]; imodintro
  iapply Hk
  unfold bodyPost Φ₁ sendBuf recvBuf counters Dat.owesAt owesWithin
  rw [show (dats m ρ b 0 c).owed t0_0.succ = 0 from rfl]
  isplitl [Hs0 Hs1 Hv0 Hv1 HzB HzS0 HzS1 HzV0 HzV1]
  · isplitl [Hs0 Hs1]
    · iapply (send_join c fb0 fb1)
      isplitl [Hs0] <;> iassumption
    isplitl [Hv0 Hv1]
    · iapply (recv_join c fr0 fr1)
      isplitl [Hv0] <;> iassumption
    isplitl [HzS0]; · iexact HzS0
    isplitl [HzS1]; · iexact HzS1
    isplitl [HzV0]; · iexact HzV0
    isplitl [HzV1] <;> iassumption
  isplitl [HO]
  · iexists (insert (SemLoc.dma (sS 1), ()) (insert (SemLoc.dma (sS 0), ()) (insert (SemLoc.dma (vS 1), ()) (insert (SemLoc.dma (vS 0), ()) (insert (SemLoc.reg barS, ()) W)))))
    isplitr; · ipureintro; exact fun _ _ => Or.inl trivial
    iexact HO
  isplitl [Hp]
  · iexists _; isplitr; · (ipureintro; rfl)
    iexact Hp
  isplitl [Hx]
  · iexists _; isplitr; · (ipureintro; rfl)
    iexact Hx
  iexists _; isplitr; swap; · iexact Hout
  ipureintro; exact out_eq m ρ b c g2

def bodyPre' (c : Dev nD) : sProp 𝕄 := iprop(Φ₀ m ρ b c ∗ staged m ρ b c)

variable {m} in
set_option maxRecDepth 4000 in
/-- The library's body obligation on device `c`. -/
theorem body_obligation (h : TableIs m b) (c : Dev nD) : BodyObligation (dats (F := F) m ρ b 0 c) (defs₀ (F := F)) 𝒱₀ () Set.univ := fun t => by
  rw [fin_N0 t]
  rw [bigSep_W0, bigSep_W0]
  simp only [owns_whole_eq]
  show bodyPre' m ρ b c ⊢ wp frame (wpE (defs₀ (F := F)) 𝒱₀ c none) Set.univ
    (cc0_body pB (Memref.isWhole_whole _) xB (Memref.isWhole_whole _) oB (Memref.isWhole_whole _)
      sB (Memref.isWhole_whole _) vB (Memref.isWhole_whole _) cc0_scratch2 cc0_scratch3) (fun _ => bodyPost m ρ b c)
  unfold bodyPre' Φ₀ start
  iintro ⟨⟨⟨⟨%K, Hg⟩, Hcl⟩, Hbufs⟩, Hst⟩
  iapply (sound_body ρ b h K c fun _ => bodyPost m ρ b c)
  unfold bodyPre
  isplitr []
  · isplitl [Hg Hcl]
    · isplitl [Hg] <;> iassumption
    isplitl [Hbufs] <;> iassumption
  · iintro H; iexact H

end Cert.Permute

end
-- ==== Proof.Run.lean ====
/- The launch: the cells' ghost state is made and dealt out, each device paying with the duties of the cells it signals
   or copies to; the launch credit; and the whole run under `TableIs m b`. -/
module

public import proofs.«01_k».proof.Proof.Body
public import Idealize.ShloMosaic.Lib.Pipeline.ValueKit.Geometry
public import Idealize.ShloMosaic.Lib.Pipeline.CollectiveSegs

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg) (b : Bool)

/-! ## The cells, numbered -/

/-- The kernel's own semaphores; with the barrier, all five of the protocol. -/
abbrev osem : Fin 4 → SemLoc sig := fun | 0 => .dma (sS 0) | 1 => .dma (sS 1) | 2 => .dma (vS 0) | 3 => .dma (vS 1)
abbrev csem : Fin 5 → SemLoc sig := fun | 0 => .reg barS | 1 => .dma (sS 0) | 2 => .dma (sS 1) | 3 => .dma (vS 0) | 4 => .dma (vS 1)
abbrev kcell (ck : Dev nD × Fin 5) : GSem nD τ sig := ((ck.1 : Thread nD τ), csem ck.2)

theorem ownSemFacts : OwnSemFacts cfg0.spec osem := by decide

theorem csem_injective : Function.Injective csem := by decide
theorem kcell_injective : Function.Injective kcell := fun x y h =>
  Prod.ext (congrArg (fun g : GSem nD τ sig => g.1.1) h) (csem_injective (congrArg Prod.snd h))

def theCells : Finset (GSem nD τ sig) := Finset.univ.map ⟨kcell, kcell_injective⟩
/-- One duty a cell. -/
def tokOf (ck : Dev nD × Fin 5) : GSem nD τ sig × ℕ × Unit := (kcell ck, 0, ())
def theToks : Finset (GSem nD τ sig × ℕ × Unit) :=
  Finset.univ.map ⟨tokOf, fun _ _ h => kcell_injective (congrArg Prod.fst h)⟩

def u₀ : UU := (initOf (cells cfgs cellOf_inj) (launchToks cfgs cellOf_inj), initOf theCells theToks)

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem over_cells (Φ : GSem nD τ sig → sProp 𝕄) :
    bigSep theCells Φ = bigSep Finset.univ fun c : Dev nD => bigSep Finset.univ fun k : Fin 5 => Φ (kcell (c, k)) := by
  unfold theCells; rw [bigSep_map, bigSep_univ_prod]; rfl

/-! ## Dealing out the ghost state -/

/-- The duty tokens of `c`'s own cells, as they are made. -/
def ownToks (c : Dev nD) : sProp 𝕄 := bigSep Finset.univ fun k : Fin 5 => dutyTok ER (kcell (c, k)) 0 ()

def posns (c : Dev nD) : sProp 𝕄 := bigSep Finset.univ fun k : Fin 5 => atPos ER (kcell (c, k)) 0 ∅ 0
def marked (c : Dev nD) : sProp 𝕄 := bigSep Finset.univ fun k : Fin 5 => reached ER (kcell (c, k)) 0

def G (c : Dev nD) : sProp 𝕄 :=
  iprop((bigSep Finset.univ fun k : Fin 5 => roundState ER (sched m ρ b) (kcell (c, k)) 0) ∗ posns c ∗ marked c ∗ ownToks c)
def G' (c : Dev nD) : sProp 𝕄 := iprop(∃ K, ghost m ρ b K c)

theorem fund_cells : BI.own (ER (initOf theCells theToks)) ⊢ (|==> bigSep Finset.univ (G m ρ b) : sProp 𝕄) := by
  have hT : bigSep theToks (fun x => (dutyTok ER x.1 x.2.1 x.2.2 : sProp 𝕄)) = bigSep Finset.univ fun c : Dev nD => ownToks c := by
    unfold theToks; rw [bigSep_map, bigSep_univ_prod]; rfl
  iintro HX
  imod (Rounds.fund ER (sched m ρ b) theCells theToks) $$ HX with ⟨Hst, Hr, Hat, Htok⟩
  imodintro
  ihave Hst := (Entails.of_eq (over_cells fun g => roundState ER (sched m ρ b) g 0)) $$ Hst
  ihave Hat := (Entails.of_eq (over_cells fun g => atPos ER g 0 ∅ 0)) $$ Hat
  ihave Hr := (Entails.of_eq (over_cells fun g => reached ER g 0)) $$ Hr
  ihave Htok := (Entails.of_eq hT) $$ Htok
  unfold G posns marked; simp only [bigSep_sep']
  isplitl [Hst]; · iexact Hst
  isplitl [Hat]; · iexact Hat
  isplitl [Hr] <;> iassumption

/-- The counters the launch hands over: the kernel's own four, and the barrier's. -/
theorem own_counters (c : Dev nD) : (ownSems0 (Ix := Unit) (Name := ℕ) (U := UU) (Lvl := ℕ) (Val := Elt F) (τ := τ) osem c : sProp 𝕄)
    = iprop(semVal (sCell 0 c) 0 ∗ semVal (sCell 1 c) 0 ∗ semVal (vCell 0 c) 0 ∗ semVal (vCell 1 c) 0) := by
  rw [ownSems0_eq_of_list c osem [0, 1, 2, 3] (by decide) (by decide)]; rfl
theorem bar_counter (c : Dev nD) : (unscopedSems0 c : sProp 𝕄) = semVal (barCell c) 0 := by
  unfold unscopedSems0; rw [bigSep_eq_bigSepL_of_eq [SemLoc.reg barS] (by decide) (by decide)]; rfl

theorem all_counters (c : Dev nD) :
    iprop(ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [own_counters, bar_counter, bigSep_five]
  iintro ⟨H, HB⟩
  isplitl [HB]; · iexact HB
  iexact H

/-- A device's cells closed into invariants at some names. -/
def someInvs (c : Dev nD) : sProp 𝕄 := bigSep Finset.univ fun k : Fin 5 => iprop(∃ κ : ℕ, cellInv ER (sched m ρ b) κ (kcell (c, k)))

theorem core_alloc (c : Dev nD) :
    iprop(ownSems0 (Ix := Unit) (Name := ℕ) (U := UU) (Lvl := ℕ) (Val := Elt F) (τ := τ) osem c ∗ unscopedSems0 c ∗ G m ρ b c)
      ⊢ |={Set.univ}=> iprop(someInvs m ρ b c ∗ posns c ∗ marked c ∗ ownToks c) := by
  unfold G
  iintro ⟨Hos, Hus, Hst, Hrest⟩
  ihave Hv := (all_counters (F := F) c) $$ [Hos Hus]
  · isplitl [Hos] <;> iassumption
  imod (show iprop((bigSep Finset.univ fun k : Fin 5 => semVal (kcell (c, k)) 0) ∗ bigSep Finset.univ fun k : Fin 5 => roundState ER (sched m ρ b) (kcell (c, k)) 0)
      ⊢ (|={Set.univ}=> someInvs m ρ b c : sProp 𝕄) from by
        rw [← bigSep_sep']
        exact (bigSep_mono fun k _ => (Rounds.body_intro ER (sched m ρ b) (kcell (c, k))).trans inv_alloc).trans (bigSep_fupd _ _)) $$ [Hv Hst] with Hinv
  · isplitl [Hv] <;> iassumption
  imodintro
  isplitl [Hinv] <;> iassumption

/-- What every device may read off: all invariants, all marks. -/
def allInvs (K : Names) : sProp 𝕄 := bigSep Finset.univ fun ck : Dev nD × Fin 5 => cellInv ER (sched m ρ b) (K ck) (kcell ck)
def allMarks : sProp 𝕄 := bigSep Finset.univ fun ck : Dev nD × Fin 5 => reached ER (kcell ck) 0

instance allInvs_persistent (K : Names) : BI.Persistent (allInvs m ρ b K) := by unfold allInvs; infer_instance
instance allMarks_persistent : BI.Persistent (allMarks (F := F)) := by unfold allMarks; infer_instance

theorem inv_at (K : Names) (c : Dev nD) (k : Fin 5) : allInvs m ρ b K ⊢ cellInv ER (sched m ρ b) (K (c, k)) (kcell (c, k)) :=
  bigSep_elim (Finset.mem_univ (c, k))
theorem mark_at (c : Dev nD) (k : Fin 5) : (allMarks : sProp 𝕄) ⊢ reached ER (kcell (c, k)) 0 :=
  bigSep_elim (Finset.mem_univ (c, k))

theorem invs_of (K : Names) (c : Dev nD) : allInvs m ρ b K ⊢ invs m ρ b K c := by
  unfold invs
  iintro #H
  isplitr; · iapply (inv_at m ρ b K c 0); iexact H
  isplitr; · iapply (inv_at m ρ b K c 1); iexact H
  isplitr; · iapply (inv_at m ρ b K c 2); iexact H
  isplitr; · iapply (inv_at m ρ b K c 3); iexact H
  isplitr; · iapply (inv_at m ρ b K c 4); iexact H
  isplitr; · iapply (inv_at m ρ b K (peer c) 0); iexact H
  isplitr; · iapply (inv_at m ρ b K (tgt b c) 3); iexact H
  iapply (inv_at m ρ b K (tgt b c) 4); iexact H
theorem marks_of (c : Dev nD) : (allMarks : sProp 𝕄) ⊢ marks b c := by
  unfold marks
  iintro #H
  isplitr; · iapply (mark_at (F := F) (peer c) 0); iexact H
  isplitr; · iapply (mark_at (F := F) c 1); iexact H
  isplitr; · iapply (mark_at (F := F) c 2); iexact H
  isplitr; · iapply (mark_at (F := F) (tgt b c) 3); iexact H
  iapply (mark_at (F := F) (tgt b c) 4); iexact H

/-- Every device's own duty tokens, regrouped by who pays: the barrier's go to the peer, the receive cells' to the
    device that copies there. -/
theorem toks_dealt : (bigSep Finset.univ fun c : Dev nD => (ownToks c : sProp 𝕄)) ⊢ bigSep Finset.univ fun c : Dev nD => duties b c := by
  unfold ownToks duties
  simp only [bigSep_five]
  rw [bigSep_sep', bigSep_sep', bigSep_sep', bigSep_sep', bigSep_sep', bigSep_sep', bigSep_sep', bigSep_sep',
    bigSep_univ_equiv peerEquiv (fun c : Dev nD => (dutyTok ER (kcell (c, 0)) 0 () : sProp 𝕄)),
    bigSep_univ_equiv (tgtEquiv b) (fun c : Dev nD => (dutyTok ER (kcell (c, 3)) 0 () : sProp 𝕄)),
    bigSep_univ_equiv (tgtEquiv b) (fun c : Dev nD => (dutyTok ER (kcell (c, 4)) 0 () : sProp 𝕄))]
  exact .refl

theorem ghost_of (K : Names) (c : Dev nD) : iprop((allInvs m ρ b K ∗ allMarks) ∗ (posns c ∗ duties b c)) ⊢ G' m ρ b c := by
  unfold G' ghost
  iintro ⟨⟨#HI, #HR⟩, Hp, Ht⟩
  iexists K
  isplitr; · iapply (invs_of m ρ b K c); iexact HI
  isplitl [Hp]
  · unfold places; iapply (Entails.of_eq (show posns c = _ from bigSep_five _)); iexact Hp
  isplitr; · iapply (marks_of (F := F) b c); iexact HR
  iexact Ht

/-- A persistent fact goes to every part of a conjunction. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop(someInvs m ρ b c ∗ posns c ∗ marked c ∗ ownToks c) : sProp 𝕄) ⊢ bigSep Finset.univ (G' m ρ b) := by
  unfold someInvs marked
  rw [bigSep_sep', bigSep_sep', bigSep_sep', ← bigSep_univ_prod (fun ck : Dev nD × Fin 5 => iprop(∃ κ : ℕ, cellInv ER (sched m ρ b) κ (kcell ck))),
    ← bigSep_univ_prod (fun ck : Dev nD × Fin 5 => (reached ER (kcell ck) 0 : sProp 𝕄))]
  iintro ⟨HI, Hat, #HR, Htok⟩
  ihave HK := (BI.bigSep_exists_pi Finset.univ (fun (ck : Dev nD × Fin 5) (κ : ℕ) => (cellInv ER (sched m ρ b) κ (kcell ck) : sProp 𝕄))) $$ HI
  icases HK with ⟨%K, #HI⟩
  ihave Htk := (toks_dealt (F := F) b) $$ Htok
  iapply (share_out (R := iprop(allInvs m ρ b K ∗ allMarks)) fun c _ => ghost_of m ρ b K c)
  isplitr
  · unfold allInvs allMarks; isplitl; · iexact HI
    iexact HR
  · rw [bigSep_sep']
    isplitl [Hat] <;> iassumption

theorem glob : (bigSep Finset.univ fun c => iprop(ownSems0 (Ix := Unit) (Name := ℕ) (U := UU) (Lvl := ℕ) (Val := Elt F) (τ := τ) osem c ∗ unscopedSems0 c ∗ G m ρ b c) : sProp 𝕄)
    ⊢ |={Set.univ}=> bigSep Finset.univ (G' m ρ b) :=
  ((bigSep_mono fun c _ => core_alloc m ρ b c).trans (bigSep_fupd _ _)).trans (BI.fupd_mono (regroup m ρ b))

/-! ## The launch credit -/

/-- Each device owing `n` to the cell of its partner, each cell is owed `n`; -/
theorem owed_there {cell : Dev nD → GSem nD τ sig} (hc : Function.Injective cell) {e : Dev nD → Dev nD} (he : ∀ d, e (e d) = d)
    (n : ℕ) (c : Dev nD) : ∑ d : Dev nD, tallyAt (cell (e d)) () n (cell c) () = n := by
  rw [Finset.sum_eq_single (e c) (fun d _ hd => ?_) (fun h => absurd (Finset.mem_univ _) h)]
  · rw [he, tallyAt_apply, if_pos ⟨rfl, rfl⟩]
  · rw [tallyAt_apply, if_neg fun h => hd (by rw [hc h.1, he])]
/-- another kind of cell is owed nothing by it. -/
theorem owed_elsewhere {cell : Dev nD → GSem nD τ sig} {g : GSem nD τ sig} (h : ∀ d, g ≠ cell d) (e : Dev nD → Dev nD) (n : ℕ) :
    ∑ d : Dev nD, tallyAt (cell (e d)) () n g () = 0 :=
  Finset.sum_eq_zero fun d _ => by rw [tallyAt_ne_cell (h (e d))]; rfl

theorem cell_inj (k : Fin 5) : Function.Injective fun c : Dev nD => kcell (c, k) := fun _ _ h => congrArg Prod.fst (kcell_injective h)
theorem cell_ne {k l : Fin 5} (h : k ≠ l) (c d : Dev nD) : kcell (c, k) ≠ kcell (d, l) := fun he => h (congrArg Prod.snd (kcell_injective he))

theorem owed_sum (g : GSem nD τ sig) : ∑ d : Dev nD, O₀ b d g ()
    = (∑ d : Dev nD, tallyAt (kcell (tgt b d, 4)) () N g ()) + (∑ d : Dev nD, tallyAt (kcell (tgt b d, 3)) () N g ())
      + ∑ d : Dev nD, tallyAt (kcell (peer d, 0)) () 1 g () := by
  rw [← Finset.sum_add_distrib, ← Finset.sum_add_distrib]; rfl

theorem owed_bar (c : Dev nD) : ∑ d : Dev nD, O₀ b d (kcell (c, 0)) () = 1 := by
  rw [owed_sum, owed_elsewhere (cell := fun d => kcell (d, 4)) (fun d => cell_ne (by decide) c d) (tgt b),
    owed_elsewhere (cell := fun d => kcell (d, 3)) (fun d => cell_ne (by decide) c d) (tgt b), owed_there (cell_inj 0) peer_peer]
theorem owed_v0 (c : Dev nD) : ∑ d : Dev nD, O₀ b d (kcell (c, 3)) () = N := by
  rw [owed_sum, owed_elsewhere (cell := fun d => kcell (d, 4)) (fun d => cell_ne (by decide) c d) (tgt b),
    owed_elsewhere (cell := fun d => kcell (d, 0)) (fun d => cell_ne (by decide) c d) peer, owed_there (cell_inj 3) (tgt_tgt b), Nat.zero_add, Nat.add_zero]
theorem owed_v1 (c : Dev nD) : ∑ d : Dev nD, O₀ b d (kcell (c, 4)) () = N := by
  rw [owed_sum, owed_elsewhere (cell := fun d => kcell (d, 3)) (fun d => cell_ne (by decide) c d) (tgt b),
    owed_elsewhere (cell := fun d => kcell (d, 0)) (fun d => cell_ne (by decide) c d) peer, owed_there (cell_inj 4) (tgt_tgt b), Nat.add_zero]

theorem launch_at (k : Fin 5) (c : Dev nD) (n : ℕ) (h : ∑ d : Dev nD, O₀ b d (kcell (c, k)) () = n) :
    tallyOn (kcell (c, k)) (launchCredit (owing (O₀ b)) 0 (kcell (c, k))) = (tallyAt (kcell (c, k)) () n : CellTallies nD τ sig Unit) := by
  unfold tallyAt; refine congrArg _ (Finsupp.ext fun u => ?_); cases u
  rw [launchCredit_owing, Finsupp.single_eq_same, h]

theorem creds (c : Dev nD) : (launchCred (O₀ b) c : sProp 𝕄) ⊢ credits c := by
  have hsub : ({csem 0, csem 3, csem 4} : Finset (SemLoc sig)) ⊆ Finset.univ := Finset.subset_univ _
  unfold launchCred credits
  refine (bigSep_subset hsub).trans ?_
  rw [bigSep_eq_bigSepL_of_eq [csem 0, csem 3, csem 4] (by decide) (by decide)]
  exact Entails.of_eq (congrArg₂ (fun x y : sProp 𝕄 => iprop(x ∗ y)) (congrArg cred (launch_at b 0 c 1 (owed_bar b c)))
    (congrArg₂ (fun x y : sProp 𝕄 => iprop(x ∗ y)) (congrArg cred (launch_at b 3 c N (owed_v0 b c))) (congrArg cred (launch_at b 4 c N (owed_v1 b c)))))

/-! ## The run -/

theorem start_intro (c : Dev nD) :
    iprop(unscopedRestP Prefetch.none cfg0.spec c (fun r => m ((c : Thread nD τ).loc r)) ∗ levAts L lv
        ∗ launchCred (O₀ b) c ∗ prngReg c (ρ c) ∗ G' m ρ b c)
      ⊢ |={Set.univ}=> iprop(start m ρ b c ∗ emp) := by
  iintro ⟨-, Hlev, Hcr, -, HG⟩
  ihave Hc := (creds (F := F) b c) $$ Hcr
  imodintro
  unfold start G'
  isplitl
  · isplitl [HG]; · iexact HG
    isplitl [Hc] <;> iassumption
  · iempintro

theorem enter (c : Dev nD) :
    iprop(start m ρ b c ∗ prefHeld Prefetch.none c (fun _ => fullShare.right) (fun k => k.elim0) ∗ scopedRest cfg0.spec c)
      ⊢ (dats m ρ b 0 c).Φ 0 := by
  rw [show (dats m ρ b 0 c).Φ 0 = Φ₀ m ρ b c from rfl, scopedRest0_eq]
  unfold Φ₀ sendBuf recvBuf
  iintro ⟨Hs, -, Hbufs⟩
  isplitl [Hs] <;> iassumption

theorem leave (c : Dev nD) :
    (dats m ρ b 0 c).Φ (Fin.last cfg0.N) ⊢ iprop(unscopedSems0 c ∗ ownSems0 osem c ∗ scopedRest cfg0.spec c) := by
  rw [show (dats m ρ b 0 c).Φ (Fin.last cfg0.N) = Φ₁ c from rfl, scopedRest0_eq, own_counters, bar_counter]
  unfold Φ₁ sendBuf recvBuf counters
  iintro ⟨Hs, Hv, H0, H1, H2, H3, HB⟩
  isplitl [HB]; · iexact HB
  isplitl [H0 H1 H2 H3]
  · isplitl [H0]; · iexact H0
    isplitl [H1]; · iexact H1
    isplitl [H2] <;> iassumption
  isplitl [Hs] <;> iassumption

theorem waits (c : Dev nD) : (levAts L lv : sProp 𝕄) ⊢ cellsWaits cfgs (dats m ρ b) () 0 c :=
  cellsWaits_intro cfgs (dats m ρ b) () 0 c fun w s t =>
    mayWait_stage b c _ (by fin_cases w <;> fin_cases s <;> decide) _ (by
      rcases t with ⟨_ | _, ht⟩
      · exact Or.inl rfl
      · exact Or.inr rfl)

theorem share_eq (c : Dev nD) (w : Fin cfg0.W) : (dats m ρ b 0 c).share w = fullShare := by unfold Dat.share; split <;> rfl

/-- What the windows' arrays hold after the run. -/
def finalA (c : Dev nD) (w : Fin cfg0.W) : Buf (Elt F) ((cfg0.win w).arr.view.loc (c : Thread nD τ)) := (dats m ρ b 0 c).arrAt w cfg0.N

theorem final_pi (c : Dev nD) : finalA m ρ b c (0 : Fin 3) = m ((c : Thread nD τ).loc main_arg1) :=
  (dats m ρ b 0 c).arrAt_in (0 : Fin 3) rfl _
theorem final_x (c : Dev nD) : finalA m ρ b c (1 : Fin 3) = m ((c : Thread nD τ).loc main_arg0) :=
  (dats m ρ b 0 c).arrAt_in (1 : Fin 3) rfl _
theorem final_out (c : Dev nD) : finalA m ρ b c (2 : Fin 3) = outAt m ρ b c :=
  (dats m ρ b 0 c).arrAt_eq_of_after_last (2 : Fin 3) t0_0 (by decide +kernel) (outAt m ρ b c) (fun j => rfl) (Memref.isWhole_whole _)

/-- After the run: the arguments as they were, the result `outAt`. -/
def Ends (r : PUnit × MemSt nD τ sig (Elt F)) : Prop := ∀ c : Dev nD,
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_v1) = (outAt m ρ b c : Buf (Elt F) ((c : Thread nD τ).loc main_v1))

variable {m} in
set_option maxRecDepth 8000 in
/-- From any memory whose tables are `b`'s, with zero counters, every fair execution ends: arguments unchanged, each
    device's result `outAt`, every counter back at zero. -/
theorem run_main (h : TableIs m b) : θ_run defs (onTc (τ := τ) (main (F := F))) (s₀ m ρ) (fun r => Ends m ρ b r ∧ r.2.sem = fun _ => 0) :=
  θ_run_region_owing_glob_pf (fun p => (cfgs p).toPCfg) (fun p => (cfgs p).toPCfg_adm) (dats m ρ b) () cellOf_inj (0 : Fin 1)
    winFacts0.to₀ ownSemFacts (PreFacts.none _) EP defs₀ 𝒱₀ m ρ main
    (hmain := fun _ => rfl)
    (hbody := body_obligation ρ b h) (hne := fun w => by fin_cases w <;> exact Nat.succ_pos _) (harr := arr_whole0) (hstage := stage_whole0) (hshare := share_eq m ρ b)
    (hdistinct := winFacts0.arr_inj)
    (O₀ := O₀ b) (howed₀ := fun _ => rfl) (howedN := fun _ => rfl)
    (L := L) (lv := lv) (hL := L_of_ne) (hwaits := waits m ρ b)
    (G := G m ρ b) (G' := G' m ρ b) (u₀ := u₀)
    (hu₀ := by
      unfold u₀
      iintro Hu
      ihave H := (ownU_pair _ _) $$ Hu
      icases H with ⟨HP, HX⟩
      imod (fund_cells m ρ b) $$ HX with HG
      imodintro
      isplitl [HP] <;> iassumption)
    (hglob := glob m ρ b)
    (hA := fun _ _ => rfl) (hpf := fun _ k => k.elim0)
    (X := start m ρ b) (Y := fun c => unscopedSems0 c) (Z := fun _ => iprop(emp))
    (hX := start_intro m ρ b) (hin := enter m ρ b) (hout := leave m ρ b)
    (QY := fun c s => ∀ sm : SemLoc sig, sm.isScoped .tc = false → s.sem ((c.tc : Thread nD τ), sm) = 0)
    (hY := fun c s' => by
      iintro ⟨Hu, -, HSI⟩
      iapply (unscopedSems0_read (X := unscopedSems0 c) (c := c) fupd_intro s')
      isplitl [Hu] <;> iassumption)
    (hQ := fun _ hr hs => ⟨fun c => ⟨((hr c).1 (1 : Fin 3)).trans (final_x m ρ b c), ((hr c).1 (0 : Fin 3)).trans (final_pi m ρ b c),
        ((hr c).1 (2 : Fin 3)).trans (final_out m ρ b c)⟩, sem_eq_zero hs fun c => (hr c).2.2⟩)

end Cert.Permute

end
-- ==== Proof.Table.lean ====
/- THE PRECONDITIONS, READ. Each of the two says a device's table word by word: `swaps` says that entry `g` is
   `1 - g`, `keeps` that entry `g` is `g`. Neither looks at the block of floats, so each is read once, for any float
   values, and the same reading serves the program as it is and the program at exact arithmetic. -/
module

public import proofs.«01_k».proof.Defs
public import proofs.«01_k».proof.Proof.Gen.KernelIdeal
public import proofs.«01_k».proof.Proof.Gen.Pre_swaps_Kernel
public import proofs.«01_k».proof.Proof.Gen.Pre_keeps_Kernel
public import proofs.«01_k».proof.Proof.Halves

@[expose] public section

noncomputable section

namespace Cert.Permute

open Cert.KernelIdeal Cert.KernelIdeal.Gen Idealize.ShloMosaic Idealize.SL.Sem

variable {F : FTy → Type} [FloatOps F]

/-- The table whose entry `g` is `entry b g`, as one array. -/
def table (b : Bool) : S2.Idx → BitVec 32 := fun i => entry b (i 0).val

/-- A comparison for equality that is one at an index says the two words are the same there. -/
theorem word_of_one (x y : S2.Idx → BitVec 32) (h : cmpi .eq x y = fun _ => 1#1) : x = y := by
  funext i
  have hi : IntOp.cmpi .eq (x i) (y i) = 1#1 := congrFun h i
  by_contra hne
  rw [show IntOp.cmpi .eq (x i) (y i) = BitVec.ofBool (x i == y i) from rfl, beq_false_of_ne hne] at hi
  exact absurd hi (by decide)

/-- One minus the position is the swapped table, the position the kept one. -/
theorem table_true : subi (broadcastInDim S2 ![] Cert.Pre_swaps_Kernel.Gen.facts.bcast_S_S2 (constantI S_ 32 1#32)) (iotaInDim S2 32 0) = table true := by
  funext i
  have : ∀ g : Fin 2, (1#32 - BitVec.ofNat 32 g.val) = entry true g.val := by decide
  exact this (i 0)
theorem table_false : iotaInDim S2 32 0 = table false := rfl

/-- `swaps`, read. -/
theorem table_of_swaps (x : FVec F S1x256x256 .f32) (pi : IVec S2 32)
    (h : Cert.Pre_swaps_Kernel.fn (F := F) x pi = fun _ => 1#1) : pi = table true :=
  (word_of_one _ _ h).trans table_true

/-- `keeps`, read. -/
theorem table_of_keeps (x : FVec F S1x256x256 .f32) (pi : IVec S2 32)
    (h : Cert.Pre_keeps_Kernel.fn (F := F) x pi = fun _ => 1#1) : pi = table false :=
  (word_of_one _ _ h).trans table_false

end Cert.Permute

end
-- ==== Proof.Value.lean ====
/- THE VALUE. At exact arithmetic a word rounded to sixteen bits and widened again is the word itself, so what device
   `c` ends with is the block of `x` of the device that sends to it, `tgt b c`. The reference sorts the table,
   carrying the positions along, and gathers `x`'s blocks at the positions so sorted: the swap and the identity are
   each their own inverse, so the positions come out as the table itself, and block `g` of the reference's result is
   `x`'s block `entry b g`. The group of `tgt b c` is that block for `c`'s group: the two agree. -/
module

public import proofs.«01_k».proof.Defs
public import proofs.«01_k».proof.Proof.Table
public import proofs.«01_k».proof.Proof.Steps
public import proofs.«01_k».proof.Proof.Gen.ReferenceIdeal

@[expose] public section

noncomputable section

namespace Cert.Permute

open Cert.KernelIdeal Cert.KernelIdeal.Gen Idealize.ShloMosaic Idealize.SL.Sem

/-! ## The reference's order -/

/-- The positions as the reference sorts them by the table `pi`. -/
abbrev sorted (pi : S2.Idx → BitVec 32) : S2.Idx → BitVec 32 :=
  (Host.sort2 S2 0 Cert.ReferenceIdeal.comparator_i32_i32_d0 pi (iotaInDim S2 32 0)).2

/-- The positions with a negative one counted from the end, as indexing by them asks. -/
abbrev order (pi : S2.Idx → BitVec 32) : S2.Idx → BitVec 32 :=
  select (cmpi .slt (sorted pi) (broadcastInDim S2 ![] Cert.ReferenceIdeal.Gen.facts.bcast_S_S2 (constantI Cert.ReferenceIdeal.S_ 32 0#32)))
    (addi (sorted pi) (broadcastInDim S2 ![] Cert.ReferenceIdeal.Gen.facts.bcast_S_S2 (constantI Cert.ReferenceIdeal.S_ 32 2#32))) (sorted pi)

/-- Sorting either table gives the table back, read as positions. -/
theorem sorted_table (b : Bool) : sorted (table b) = table b := by
  have : ∀ (b : Bool) (i : S2.Idx), sorted (table b) i = table b i := by decide +kernel
  exact funext (this b)

/-- No entry is negative, so the positions are used as they are. -/
theorem order_table (b : Bool) : order (table b) = table b := by
  funext i
  unfold order
  rw [sorted_table]
  have : ∀ (b : Bool) (g : Fin 2), (if IntOp.cmpi .slt (entry b g.val) 0#32 = 1#1 then entry b g.val + 2#32 else entry b g.val) = entry b g.val := by decide
  exact this b (i 0)

/-! ## The reference's result -/

/-- The index of `x` that the reference's result reads at `j`: block `entry b (j 0)`, the same row and column. -/
def readAt (b : Bool) (j : Cert.ReferenceIdeal.S2x256x256.Idx) : Cert.ReferenceIdeal.S2x256x256.Idx :=
  Cert.ReferenceIdeal.gather_S2x256x256_S2x1_S2x256x256_12_0_n_n_0_1_1256256.operandIdx j
    (broadcastInDim Cert.ReferenceIdeal.S2x1 ![0] Cert.ReferenceIdeal.Gen.facts.bcast_S2_S2x1_0 (table b))

theorem readAt_zero (b : Bool) (j : Cert.ReferenceIdeal.S2x256x256.Idx) :
    (readAt b j 0).val = (if b then 1 - (j 0).val else (j 0).val) := by
  have h : ∀ (b : Bool) (g : Fin 2), min (entry b g.val).toInt.toNat (2 - 1) + 0 + 0 = (if b then 1 - g.val else g.val) := by decide
  exact h b (j 0)
theorem readAt_one (b : Bool) (j : Cert.ReferenceIdeal.S2x256x256.Idx) : (readAt b j 1).val = (j 1).val :=
  (show (readAt b j 1).val = 0 + (j 1).val from rfl).trans (Nat.zero_add _)
theorem readAt_two (b : Bool) (j : Cert.ReferenceIdeal.S2x256x256.Idx) : (readAt b j 2).val = (j 2).val :=
  (show (readAt b j 2).val = 0 + (j 2).val from rfl).trans (Nat.zero_add _)

/-- The reference's expression for its result is `x` read at `readAt b`, when the table is `table b`. -/
theorem reference_reads (b : Bool) (x : Cert.ReferenceIdeal.S2x256x256.Idx → EReal) (pi : S2.Idx → BitVec 32) (h : pi = table b) :
    Host.gather Cert.ReferenceIdeal.gather_S2x256x256_S2x1_S2x256x256_12_0_n_n_0_1_1256256 x
        (broadcastInDim Cert.ReferenceIdeal.S2x1 ![0] Cert.ReferenceIdeal.Gen.facts.bcast_S2_S2x1_0 (order pi))
      = fun j => x (readAt b j) := by
  subst h
  rw [order_table]
  rfl

/-! ## The two agree -/

/-- Device `c`'s group, which is the block of the whole array it holds. -/
abbrev group (c : Dev nD) : ℕ := Layout.meshLin [2, 4, 4] c.val [0]

theorem group_tgt (b : Bool) (c : Dev nD) : group (tgt b c) = if b then 1 - group c else group c := by
  revert b c; decide +kernel

/-- Where an element of device `c`'s block is in the whole array. -/
abbrev placeOf (c : Dev nD) (i : S1x256x256.Idx) : Cert.ReferenceIdeal.S2x256x256.Idx :=
  (show Layout.TilesN S1x256x256 Cert.ReferenceIdeal.S2x256x256 (fun a => Layout.cutSize [2, 4, 4] ((![[0], [], []] : Fin 3 → List ℕ) a)) by decide).idx
    (Layout.meshBlock [2, 4, 4] ![[0], [], []] c) i

theorem place_zero (c : Dev nD) (i : S1x256x256.Idx) : (placeOf c i 0).val = group c := by
  have hi : (i 0).val = 0 := Nat.lt_one_iff.1 (i 0).isLt
  have h : (placeOf c i 0).val = group c * 1 + (i 0).val := rfl
  rw [h, hi, Nat.mul_one, Nat.add_zero]
theorem place_one (c : Dev nD) (i : S1x256x256.Idx) : (placeOf c i 1).val = (i 1).val := by
  have h : (placeOf c i 1).val = 0 * S1x256x256.size 1 + (i 1).val := rfl
  rw [h, Nat.zero_mul, Nat.zero_add]
theorem place_two (c : Dev nD) (i : S1x256x256.Idx) : (placeOf c i 2).val = (i 2).val := by
  have h : (placeOf c i 2).val = 0 * S1x256x256.size 2 + (i 2).val := rfl
  rw [h, Nat.zero_mul, Nat.zero_add]

/-- The sender's element is where the reference reads the receiver's. -/
theorem place_tgt (b : Bool) (c : Dev nD) (i : S1x256x256.Idx) : placeOf (tgt b c) i = readAt b (placeOf c i) := by
  funext a
  apply Fin.ext
  match a with
  | ⟨0, _⟩ => exact (place_zero _ i).trans ((group_tgt b c).trans (by rw [← place_zero c i]; exact (readAt_zero b _).symm))
  | ⟨1, _⟩ => exact (place_one _ i).trans ((place_one c i).symm.trans (readAt_one b _).symm)
  | ⟨2, _⟩ => exact (place_two _ i).trans ((place_two c i).symm.trans (readAt_two b _).symm)

/-- The block of `x` that `tgt b c` holds is the block that `c` holds of the array read at `readAt b`. -/
theorem block_tgt {α : Type} (b : Bool) (c : Dev nD) (x : Cert.ReferenceIdeal.S2x256x256.Idx → α) :
    Layout.blockN ⟨3, ![1, 256, 256]⟩ ⟨3, ![2, 256, 256]⟩ (Layout.meshBlock [2, 4, 4] ![[0], [], []] (tgt b c)) x
      = Layout.blockN ⟨3, ![1, 256, 256]⟩ ⟨3, ![2, 256, 256]⟩ (Layout.meshBlock [2, 4, 4] ![[0], [], []] c) (fun j => x (readAt b j)) :=
  funext fun i => congrArg x (place_tgt b c i)

/-- What the run leaves device `c`, at exact arithmetic: the whole of the sender's argument. -/
theorem outAt_ideal (m : (ℓ : Loc nD τ sig) → Buf (Elt Ideal) ℓ) (ρ : Dev nD → PrngReg) (b : Bool) (c : Dev nD) :
    outAt m ρ b c = (m (((tgt b c).tc : Thread nD τ).loc main_arg0) : S1x256x256.Idx → Elt Ideal .f32) :=
  (show outAt m ρ b c = xStg m ρ (tgt b c) from rfl).trans (xStg_eq m ρ (tgt b c))

end Cert.Permute

end
-- ==== Proof.lean ====
/- The certificate `Cert.Claim` of the block permutation kernel, assembled.

   `Proof/Halves.lean` — the devices, the table, the row halves. `Proof/Schedule.lean` — the protocol. `Proof/Steps.lean`
   — its steps. `Proof/Body.lean` — the body on a device. `Proof/Run.lean` — the launch and the whole run, over any float
   values and for both tables. `Proof/Table.lean` — the preconditions read. `Proof/Value.lean` — the reference's value.
   Here: the claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Table
public import proofs.«01_k».proof.Proof.Value
public import proofs.«01_k».proof.Proof.Gen.Pre_swaps_Kernel
public import proofs.«01_k».proof.Proof.Gen.Pre_keeps_Kernel
public import proofs.«01_k».proof.Proof.Gen.Pre_swaps_ReferenceIdeal
public import proofs.«01_k».proof.Proof.Gen.Pre_keeps_ReferenceIdeal
public import Idealize.ShloMosaic.Adequacy
public import Idealize.ShloMosaic.Init

@[expose] public section

noncomputable section

namespace Cert.Proof

open Idealize.ShloMosaic Idealize.ShloMosaic.TcCoe Idealize.SL.Sem Cert.Permute

/-! ## The kernel's frames

The kernel and its reading at exact arithmetic are one text, so the one run gives the frame of each, for each of the two
tables. -/

/-- The two programs' kernels, looked up by label, are the same, -/
theorem kernels_eq : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- and so are the tables of bodies that the pipeline is built from. -/
theorem bodies_eq : @Cert.Kernel.defs Bits _ _ = @Cert.KernelIdeal.defs Bits _ _ := by
  unfold Cert.Kernel.defs Cert.KernelIdeal.defs
  exact congrArg (Pipeline.defs _) kernels_eq

/-- The run's frame: the arguments end as they were and every counter ends at zero. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) (b : Bool) (ht : TableIs m b) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_main (F := F) (m := m) ρ b ht)

theorem frame_kernel_swaps : Cert.quiescent_Kernel := by
  intro m ρ hp
  rw [bodies_eq]
  exact run_frame (F := Bits) m ρ true fun c i => congrFun (table_of_swaps (F := Bits) _ _ (hp c)) i

theorem frame_kernel_keeps : Cert.quiescent_Kernel_pre_keeps_Kernel := by
  intro m ρ hp
  rw [bodies_eq]
  exact run_frame (F := Bits) m ρ false fun c i => congrFun (table_of_keeps (F := Bits) _ _ (hp c)) i

theorem frame_ideal_swaps : Cert.quiescent_KernelIdeal := fun m ρ hp =>
  run_frame (F := Ideal) m ρ true fun c i => congrFun (table_of_swaps (F := Ideal) _ _ (hp c)) i

theorem frame_ideal_keeps : Cert.quiescent_KernelIdeal_pre_keeps_Kernel := fun m ρ hp =>
  run_frame (F := Ideal) m ρ false fun c i => congrFun (table_of_keeps (F := Ideal) _ _ (hp c)) i

/-! ## The reference's frames

The reference declares no semaphore, so every counter of it is zero. -/

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_swaps : Cert.quiescent_ReferenceIdeal_pre_swaps_ReferenceIdeal := fun m ρ _ => frame_reference m ρ trivial
theorem frame_reference_keeps : Cert.quiescent_ReferenceIdeal_pre_keeps_ReferenceIdeal := fun m ρ _ => frame_reference m ρ trivial

/-! ## The values -/

/-- The reference's result for the table `table b`: `x` read at `readAt b`. -/
theorem reference_value (b : Bool) (m' : (ℓ : Loc Cert.ReferenceIdeal.nD Cert.ReferenceIdeal.τ Cert.ReferenceIdeal.sig) → Buf (Elt Ideal) ℓ)
    (ρ' : Dev Cert.ReferenceIdeal.nD → PrngReg)
    (hpi : (m' (((0 : Dev Cert.ReferenceIdeal.nD).tc : Thread _ Cert.ReferenceIdeal.τ).loc Cert.ReferenceIdeal.main_arg1) : Cert.ReferenceIdeal.S2.Idx → BitVec 32) = table b) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread _ Cert.ReferenceIdeal.τ).loc Cert.ReferenceIdeal.main_v7)
          = (fun j => (m' (((0 : Dev Cert.ReferenceIdeal.nD).tc : Thread _ Cert.ReferenceIdeal.τ).loc Cert.ReferenceIdeal.main_arg0) : Cert.ReferenceIdeal.S2x256x256.Idx → EReal) (readAt b j))
      ∧ r.2.mem (((0 : Dev Cert.ReferenceIdeal.nD).tc : Thread _ Cert.ReferenceIdeal.τ).loc Cert.ReferenceIdeal.main_arg0) = m' (((0 : Dev Cert.ReferenceIdeal.nD).tc : Thread _ Cert.ReferenceIdeal.τ).loc Cert.ReferenceIdeal.main_arg0)
      ∧ r.2.mem (((0 : Dev Cert.ReferenceIdeal.nD).tc : Thread _ Cert.ReferenceIdeal.τ).loc Cert.ReferenceIdeal.main_arg1) = m' (((0 : Dev Cert.ReferenceIdeal.nD).tc : Thread _ Cert.ReferenceIdeal.τ).loc Cert.ReferenceIdeal.main_arg1)) :=
  (θ_run Cert.ReferenceIdeal.defs _ _).mono
    (fun r h => ⟨(h 0).1.trans (reference_reads b _ _ hpi), (h 0).2⟩)
    (Cert.ReferenceIdeal.Value.run (F := Ideal) m' ρ')

/-- The kernel's result on each device, when the devices hold the blocks of one array: its block of that array read
    at `readAt b`. -/
theorem kernel_value (b : Bool) (m : (ℓ : Loc Cert.KernelIdeal.nD Cert.KernelIdeal.τ Cert.KernelIdeal.sig) → Buf (Elt Ideal) ℓ)
    (ρ : Dev Cert.KernelIdeal.nD → PrngReg) (x : Cert.ReferenceIdeal.S2x256x256.Idx → EReal) (ht : TableIs m b)
    (hx : ∀ c : Dev Cert.KernelIdeal.nD, m ((c.tc : Thread _ Cert.KernelIdeal.τ).loc Cert.KernelIdeal.main_arg0)
      = Layout.blockN ⟨3, ![1, 256, 256]⟩ ⟨3, ![2, 256, 256]⟩ (Layout.meshBlock [2, 4, 4] ![[0], [], []] c) x) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread _ Cert.KernelIdeal.τ).loc Cert.KernelIdeal.main_v1)
          = Layout.blockN ⟨3, ![1, 256, 256]⟩ ⟨3, ![2, 256, 256]⟩ (Layout.meshBlock [2, 4, 4] ![[0], [], []] c) (fun j => x (readAt b j))
      ∧ r.2.mem ((c.tc : Thread _ Cert.KernelIdeal.τ).loc Cert.KernelIdeal.main_arg0) = m ((c.tc : Thread _ Cert.KernelIdeal.τ).loc Cert.KernelIdeal.main_arg0)
      ∧ r.2.mem ((c.tc : Thread _ Cert.KernelIdeal.τ).loc Cert.KernelIdeal.main_arg1) = m ((c.tc : Thread _ Cert.KernelIdeal.τ).loc Cert.KernelIdeal.main_arg1)) :=
  (θ_run Cert.KernelIdeal.defs _ _).mono
    (fun r h c => ⟨(h.1 c).2.2.trans ((outAt_ideal m ρ b c).trans ((hx (tgt b c)).trans (block_tgt b c x))), (h.1 c).1, (h.1 c).2.1⟩)
    (run_main (F := Ideal) (m := m) ρ b ht)

theorem value_swaps : Cert.algebraic_KernelIdeal_ReferenceIdeal := fun m ρ m' ρ' hp hagree =>
  ⟨_, kernel_value true m ρ _ (fun c i => congrFun (table_of_swaps (F := Ideal) _ _ (hp c)) i) (fun c => (hagree c).1),
    reference_value true m' ρ' ((hagree 0).2.symm.trans (table_of_swaps (F := Ideal) _ _ (hp 0)))⟩

theorem value_keeps : Cert.algebraic_KernelIdeal_ReferenceIdeal_pre_keeps_Kernel := fun m ρ m' ρ' hp hagree =>
  ⟨_, kernel_value false m ρ _ (fun c i => congrFun (table_of_keeps (F := Ideal) _ _ (hp c)) i) (fun c => (hagree c).1),
    reference_value false m' ρ' ((hagree 0).2.symm.trans (table_of_keeps (F := Ideal) _ _ (hp 0)))⟩

/-- Everything claimed. The two programs are one text, so `preserves` asks nothing. -/
theorem claim : Cert.Claim := ⟨Cert.Kernel.Gen.facts, Cert.KernelIdeal.Gen.facts, Cert.ReferenceIdeal.Gen.facts, Cert.Pre_swaps_Kernel.Gen.facts, Cert.Pre_keeps_Kernel.Gen.facts, Cert.Pre_swaps_ReferenceIdeal.Gen.facts, Cert.Pre_keeps_ReferenceIdeal.Gen.facts,
  frame_kernel_swaps, frame_kernel_keeps, frame_ideal_swaps, frame_ideal_keeps, frame_reference, frame_reference_swaps, frame_reference_keeps,
  trivial, value_swaps, value_keeps⟩

end Cert.Proof

end
